-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite [hPre_finite : Cert.Pre_finite.Facts] (m : (ℓ : Loc Cert.AttIdeal.nD Cert.AttIdeal.τ Cert.AttIdeal.sig) → Buf (Elt Ideal) ℓ) : Prop :=
  ∀ c : Dev Cert.AttIdeal.nD,
    (Cert.Pre_finite.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite [hPre_finite : Cert.Pre_finite.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11)
      ∧ r.2.mem ((c.tc : Thread Cert.Post.nD Cert.Post.τ).loc Cert.Post.main_arg12) = m ((c.tc : Thread Cert.Post.nD Cert.Post.τ).loc Cert.Post.main_arg12)
      ∧ r.2.mem ((c.tc : Thread Cert.Post.nD Cert.Post.τ).loc Cert.Post.main_arg13) = m ((c.tc : Thread Cert.Post.nD Cert.Post.τ).loc Cert.Post.main_arg13)
      ∧ r.2.mem ((c.tc : Thread Cert.Post.nD Cert.Post.τ).loc Cert.Post.main_arg14) = m ((c.tc : Thread Cert.Post.nD Cert.Post.τ).loc Cert.Post.main_arg14)
      ∧ r.2.mem ((c.tc : Thread Cert.Post.nD Cert.Post.τ).loc Cert.Post.main_arg15) = m ((c.tc : Thread Cert.Post.nD Cert.Post.τ).loc Cert.Post.main_arg15))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
      ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
      ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
      ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
      ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11)
      ∧ r.2.mem ((c.tc : Thread Cert.PostRefIdeal.nD Cert.PostRefIdeal.τ).loc Cert.PostRefIdeal.main_arg12) = m ((c.tc : Thread Cert.PostRefIdeal.nD Cert.PostRefIdeal.τ).loc Cert.PostRefIdeal.main_arg12)
      ∧ r.2.mem ((c.tc : Thread Cert.PostRefIdeal.nD Cert.PostRefIdeal.τ).loc Cert.PostRefIdeal.main_arg13) = m ((c.tc : Thread Cert.PostRefIdeal.nD Cert.PostRefIdeal.τ).loc Cert.PostRefIdeal.main_arg13)
      ∧ r.2.mem ((c.tc : Thread Cert.PostRefIdeal.nD Cert.PostRefIdeal.τ).loc Cert.PostRefIdeal.main_arg14) = m ((c.tc : Thread Cert.PostRefIdeal.nD Cert.PostRefIdeal.τ).loc Cert.PostRefIdeal.main_arg14)
      ∧ r.2.mem ((c.tc : Thread Cert.PostRefIdeal.nD Cert.PostRefIdeal.τ).loc Cert.PostRefIdeal.main_arg15) = m ((c.tc : Thread Cert.PostRefIdeal.nD Cert.PostRefIdeal.τ).loc Cert.PostRefIdeal.main_arg15))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttIdeal_pre_finite [hAttIdeal : Cert.AttIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_AttRefIdeal_pre_finite [hAttRefIdeal : Cert.AttRefIdeal.Facts] [hPre_finite : Cert.Pre_finite.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)
      ∧ m' ((c.tc : Thread Cert.PostRefIdeal.nD Cert.PostRefIdeal.τ).loc Cert.PostRefIdeal.main_arg12) = m ((c.tc : Thread Cert.PostIdeal.nD Cert.PostIdeal.τ).loc Cert.PostIdeal.main_arg12)
      ∧ m' ((c.tc : Thread Cert.PostRefIdeal.nD Cert.PostRefIdeal.τ).loc Cert.PostRefIdeal.main_arg13) = m ((c.tc : Thread Cert.PostIdeal.nD Cert.PostIdeal.τ).loc Cert.PostIdeal.main_arg13)
      ∧ m' ((c.tc : Thread Cert.PostRefIdeal.nD Cert.PostRefIdeal.τ).loc Cert.PostRefIdeal.main_arg14) = m ((c.tc : Thread Cert.PostIdeal.nD Cert.PostIdeal.τ).loc Cert.PostIdeal.main_arg14)
      ∧ m' ((c.tc : Thread Cert.PostRefIdeal.nD Cert.PostRefIdeal.τ).loc Cert.PostRefIdeal.main_arg15) = m ((c.tc : Thread Cert.PostIdeal.nD Cert.PostIdeal.τ).loc Cert.PostIdeal.main_arg15)) →
    ∃ (v0 : (c : Dev Cert.PostIdeal.nD) → Buf (Elt Ideal) ((c.tc : Thread Cert.PostIdeal.nD Cert.PostIdeal.τ).loc Cert.PostIdeal.main_v23)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v23) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11)
          ∧ r.2.mem ((c.tc : Thread Cert.PostIdeal.nD Cert.PostIdeal.τ).loc Cert.PostIdeal.main_arg12) = m ((c.tc : Thread Cert.PostIdeal.nD Cert.PostIdeal.τ).loc Cert.PostIdeal.main_arg12)
          ∧ r.2.mem ((c.tc : Thread Cert.PostIdeal.nD Cert.PostIdeal.τ).loc Cert.PostIdeal.main_arg13) = m ((c.tc : Thread Cert.PostIdeal.nD Cert.PostIdeal.τ).loc Cert.PostIdeal.main_arg13)
          ∧ r.2.mem ((c.tc : Thread Cert.PostIdeal.nD Cert.PostIdeal.τ).loc Cert.PostIdeal.main_arg14) = m ((c.tc : Thread Cert.PostIdeal.nD Cert.PostIdeal.τ).loc Cert.PostIdeal.main_arg14)
          ∧ r.2.mem ((c.tc : Thread Cert.PostIdeal.nD Cert.PostIdeal.τ).loc Cert.PostIdeal.main_arg15) = m ((c.tc : Thread Cert.PostIdeal.nD Cert.PostIdeal.τ).loc Cert.PostIdeal.main_arg15))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v117) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11)
          ∧ r.2.mem ((c.tc : Thread Cert.PostRefIdeal.nD Cert.PostRefIdeal.τ).loc Cert.PostRefIdeal.main_arg12) = m' ((c.tc : Thread Cert.PostRefIdeal.nD Cert.PostRefIdeal.τ).loc Cert.PostRefIdeal.main_arg12)
          ∧ r.2.mem ((c.tc : Thread Cert.PostRefIdeal.nD Cert.PostRefIdeal.τ).loc Cert.PostRefIdeal.main_arg13) = m' ((c.tc : Thread Cert.PostRefIdeal.nD Cert.PostRefIdeal.τ).loc Cert.PostRefIdeal.main_arg13)
          ∧ r.2.mem ((c.tc : Thread Cert.PostRefIdeal.nD Cert.PostRefIdeal.τ).loc Cert.PostRefIdeal.main_arg14) = m' ((c.tc : Thread Cert.PostRefIdeal.nD Cert.PostRefIdeal.τ).loc Cert.PostRefIdeal.main_arg14)
          ∧ r.2.mem ((c.tc : Thread Cert.PostRefIdeal.nD Cert.PostRefIdeal.τ).loc Cert.PostRefIdeal.main_arg15) = m' ((c.tc : Thread Cert.PostRefIdeal.nD Cert.PostRefIdeal.τ).loc Cert.PostRefIdeal.main_arg15))

def preserves_Att_AttIdeal : Prop :=
  True

def algebraic_AttIdeal_AttRefIdeal_pre_finite [hAttIdeal : Cert.AttIdeal.Facts] [hAttRefIdeal : Cert.AttRefIdeal.Facts] [hPre_finite : Cert.Pre_finite.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v36)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v36) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v232) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v4_0)) (v1 : (c : Dev Cert.InProjIdeal.nD) → Buf (Elt Ideal) ((c.tc : Thread Cert.InProjIdeal.nD Cert.InProjIdeal.τ).loc Cert.InProjIdeal.main_v4_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v4_0) = v0 c
          ∧ r.2.mem ((c.tc : Thread Cert.InProjIdeal.nD Cert.InProjIdeal.τ).loc Cert.InProjIdeal.main_v4_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def Claim : Prop :=
  ∃ (hPost : Cert.Post.Facts) (hPostIdeal : Cert.PostIdeal.Facts) (hPostRefIdeal : Cert.PostRefIdeal.Facts) (hAtt : Cert.Att.Facts) (hAttIdeal : Cert.AttIdeal.Facts) (hAttRefIdeal : Cert.AttRefIdeal.Facts) (hInProj : Cert.InProj.Facts) (hInProjIdeal : Cert.InProjIdeal.Facts) (hInProjRefIdeal : Cert.InProjRefIdeal.Facts) (hPre_finite : Cert.Pre_finite.Facts),
    quiescent_Post (hPost := hPost)
    ∧ quiescent_PostIdeal (hPostIdeal := hPostIdeal)
    ∧ quiescent_PostRefIdeal (hPostRefIdeal := hPostRefIdeal)
    ∧ quiescent_Att (hAtt := hAtt)
    ∧ quiescent_AttIdeal (hAttIdeal := hAttIdeal)
    ∧ quiescent_AttIdeal_pre_finite (hAttIdeal := hAttIdeal) (hPre_finite := hPre_finite)
    ∧ quiescent_AttRefIdeal (hAttRefIdeal := hAttRefIdeal)
    ∧ quiescent_AttRefIdeal_pre_finite (hAttRefIdeal := hAttRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ preserves_Post_PostIdeal
    ∧ algebraic_PostIdeal_PostRefIdeal (hPostIdeal := hPostIdeal) (hPostRefIdeal := hPostRefIdeal)
    ∧ preserves_Att_AttIdeal
    ∧ algebraic_AttIdeal_AttRefIdeal_pre_finite (hAttIdeal := hAttIdeal) (hAttRefIdeal := hAttRefIdeal) (hPre_finite := hPre_finite)
    ∧ preserves_InProj_InProjIdeal
    ∧ algebraic_InProjIdeal_InProjRefIdeal (hInProjIdeal := hInProjIdeal) (hInProjRefIdeal := hInProjRefIdeal)
-- ==== Pre_finite.lean ====
abbrev S49152x1536 : Shape := ⟨2, ![49152, 1536]⟩
abbrev S32x8 : Shape := ⟨2, ![32, 8]⟩
abbrev S49152x1024 : Shape := ⟨2, ![49152, 1024]⟩
abbrev S_ : Shape := ⟨0, ![]⟩

class Facts : Prop where
  slices_S49152x1536_S49152x1024_0_0 : S49152x1536.Slices ![0, 0] S49152x1024
  bcast_S_S49152x1024 : S_.BroadcastsInDim S49152x1024 (![] : Fin 0 → Fin S49152x1024.rank)
  reducesTo_S49152x1024_S_d0_1 : S49152x1024.ReducesTo [0, 1] S_
  h_S_ : 0 < S_.numel
  bcast_S_S32x8 : S_.BroadcastsInDim S32x8 (![] : Fin 0 → Fin S32x8.rank)
  reducesTo_S32x8_S_d0_1 : S32x8.ReducesTo [0, 1] S_

variable [Facts]

def fn {F : FTy → Type} [FloatOps F] (main_arg0 : FVec F S49152x1536 .f32) (main_arg1 : FVec F S32x8 .f32) : IVec S_ 1 :=
  let main_v0 : FVec F S49152x1024 .f32 := (extractStridedSlice S49152x1024 ![0, 0] · slices_S49152x1536_S49152x1024_0_0) main_arg0
  let main_v1 : FVec F S49152x1024 .f32 := Host.absf main_v0
  let main_cst : FVec F S_ .f32 := constant S_ .f32 0x7F800000#32
  let main_v2 : FVec F S49152x1024 .f32 := broadcastInDim S49152x1024 ![] bcast_S_S49152x1024 main_cst
  let main_v3 : IVec S49152x1024 1 := cmpf .olt main_v1 main_v2
  let main_c : IVec S_ 1 := constantI S_ 1 1#1
  let main_v4 : IVec S_ 1 := (fun x v => Host.reduce IntOp.andi x v reducesTo_S49152x1024_S_d0_1 h_S_) main_v3 main_c
  let main_v5 : FVec F S32x8 .f32 := Host.absf main_arg1
  let main_cst_0 : FVec F S_ .f32 := constant S_ .f32 0x7F800000#32
  let main_v6 : FVec F S32x8 .f32 := broadcastInDim S32x8 ![] bcast_S_S32x8 main_cst_0
  let main_v7 : IVec S32x8 1 := cmpf .olt main_v5 main_v6
  let main_c_1 : IVec S_ 1 := constantI S_ 1 1#1
  let main_v8 : IVec S_ 1 := (fun x v => Host.reduce IntOp.andi x v reducesTo_S32x8_S_d0_1 h_S_) main_v7 main_c_1
  let main_v9 : IVec S_ 1 := andi main_v4 main_v8
  main_v9
-- ==== Post.lean ====
abbrev S49152x1024 : Shape := ⟨2, ![49152, 1024]⟩
abbrev S49152x512 : Shape := ⟨2, ![49152, 512]⟩
abbrev S49152x256 : Shape := ⟨2, ![49152, 256]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S512x512 : Shape := ⟨2, ![512, 512]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S512x1 : Shape := ⟨2, ![512, 1]⟩

abbrev nBuf : Space → Nat
  | .hbm => 40
  | .vmem => 22
  | .smem => 0
  | _ => 0

abbrev bufTy : (tb : Table) → Fin (tcTables nBuf tb) → BufTy
  | .hbm, ⟨0, _⟩ => ⟨S49152x1024, .f32⟩
  | .hbm, ⟨1, _⟩ => ⟨S49152x512, .f32⟩
  | .hbm, ⟨2, _⟩ => ⟨S49152x512, .f32⟩
  | .hbm, ⟨3, _⟩ => ⟨S49152x256, .f32⟩
  | .hbm, ⟨4, _⟩ => ⟨S1x512x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1024x1024, .f32⟩
  | .hbm, ⟨9, _⟩ => ⟨S1x1024, .f32⟩
  | .hbm, ⟨10, _⟩ => ⟨S1x1024x4096, .f32⟩
  | .hbm, ⟨11, _⟩ => ⟨S1x4096x1024, .f32⟩
  | .hbm, ⟨12, _⟩ => ⟨S1x1024, .f32⟩
  | .hbm, ⟨13, _⟩ => ⟨S1x1024x1024, .f32⟩
  | .hbm, ⟨14, _⟩ => ⟨S1x256x1024, .f32⟩
  | .hbm, ⟨15, _⟩ => ⟨S1024, .f32⟩
  | .hbm, ⟨16, _⟩ => ⟨S512x512, .f32⟩
  | .hbm, ⟨17, _⟩ => ⟨S512x512, .bf16⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S1024x4096, .f32⟩
  | .hbm, ⟨29, _⟩ => ⟨S1024x4096, .bf16⟩
  | .hbm, ⟨30, _⟩ => ⟨S4096x1024, .f32⟩
  | .hbm, ⟨31, _⟩ => ⟨S4096x1024, .bf16⟩
  | .hbm, ⟨32, _⟩ => ⟨S1024, .f32⟩
  | .hbm, ⟨33, _⟩ => ⟨S1x1024, .f32⟩
  | .hbm, ⟨34, _⟩ => ⟨S1024x1024, .f32⟩
  | .hbm, ⟨35, _⟩ => ⟨S1024x1024, .bf16⟩
  | .hbm, ⟨36, _⟩ => ⟨S256x1024, .f32⟩
  | .hbm, ⟨37, _⟩ => ⟨S256x1024, .bf16⟩
  | .hbm, ⟨38, _⟩ => ⟨S1x1024, .f32⟩
  | .hbm, ⟨39, _⟩ => ⟨S49152x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x512, .bf16⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1024x1024, .bf16⟩
  | .local _ .vmem, ⟨13, _⟩ => ⟨S1x1024, .f32⟩
  | .local _ .vmem, ⟨14, _⟩ => ⟨S1024x4096, .bf16⟩
  | .local _ .vmem, ⟨15, _⟩ => ⟨S4096x1024, .bf16⟩
  | .local _ .vmem, ⟨16, _⟩ => ⟨S1x1024, .f32⟩
  | .local _ .vmem, ⟨17, _⟩ => ⟨S1024x1024, .bf16⟩
  | .local _ .vmem, ⟨18, _⟩ => ⟨S256x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== PostRefIdeal.lean ====
abbrev S49152x1024 : Shape := ⟨2, ![49152, 1024]⟩
abbrev S49152x512 : Shape := ⟨2, ![49152, 512]⟩
abbrev S49152x256 : Shape := ⟨2, ![49152, 256]⟩
abbrev S1x512x512 : Shape := ⟨3, ![1, 512, 512]⟩
abbrev S1x512 : Shape := ⟨2, ![1, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1x256x1024 : Shape := ⟨3, ![1, 256, 1024]⟩
abbrev S1024 : Shape := ⟨1, ![1024]⟩
abbrev S_ : Shape := ⟨0, ![]⟩
abbrev S512x512 : Shape := ⟨2, ![512, 512]⟩
abbrev S512 : Shape := ⟨1, ![512]⟩
abbrev S49152 : Shape := ⟨1, ![49152]⟩
abbrev S49152x1 : Shape := ⟨2, ![49152, 1]⟩
abbrev S1024x1024 : Shape := ⟨2, ![1024, 1024]⟩
abbrev S1024x4096 : Shape := ⟨2, ![1024, 4096]⟩
abbrev S49152x4096 : Shape := ⟨2, ![49152, 4096]⟩
abbrev S4096x1024 : Shape := ⟨2, ![4096, 1024]⟩
abbrev S256x1024 : Shape := ⟨2, ![256, 1024]⟩

abbrev nBuf : Space → Nat
  | .hbm => 159
  | .vmem => 0
  | .smem => 0
  | _ => 0

abbrev hbmTy0_0 (i : Nat) : BufTy := match i % 128 with
  | 0 => ⟨S49152x1024, .f32⟩
  | 1 => ⟨S49152x512, .f32⟩
  | 2 => ⟨S49152x512, .f32⟩
  | 3 => ⟨S49152x256, .f32⟩
  | 4 => ⟨S1x512x512, .f32⟩
  | 5 => ⟨S1x512, .f32⟩
  | 6 => ⟨S1x512, .f32⟩
  | 7 => ⟨S1x512, .f32⟩
  | 8 => ⟨S1x1024x1024, .f32⟩
  | 9 => ⟨S1x1024, .f32⟩
  | 10 => ⟨S1x1024x4096, .f32⟩
  | 11 => ⟨S1x4096x1024, .f32⟩
  | 12 => ⟨S1x1024, .f32⟩
  | 13 => ⟨S1x1024x1024, .f32⟩
  | 14 => ⟨S1x256x1024, .f32⟩
  | 15 => ⟨S1024, .f32⟩
  | 16 => ⟨S49152x512, .f32⟩
  | 17 => ⟨S49152x512, .f32⟩
  | 18 => ⟨S_, .f32⟩
  | 19 => ⟨S49152x512, .f32⟩
  | 20 => ⟨S49152x512, .f32⟩
  | 21 => ⟨S49152x512, .f32⟩
  | 22 => ⟨S_, .f32⟩
  | 23 => ⟨S49152x512, .f32⟩
  | 24 => ⟨S49152x512, .f32⟩
  | 25 => ⟨S49152x512, .f32⟩
  | 26 => ⟨S_, .f32⟩
  | 27 => ⟨S49152x512, .f32⟩
  | 28 => ⟨S49152x512, .f32⟩
  | 29 => ⟨S_, .f32⟩
  | 30 => ⟨S49152x512, .f32⟩
  | 31 => ⟨S49152x512, .f32⟩
  | 32 => ⟨S49152x512, .f32⟩
  | 33 => ⟨S512x512, .f32⟩
  | 34 => ⟨S49152x512, .f32⟩
  | 35 => ⟨S512, .f32⟩
  | 36 => ⟨S1x512, .f32⟩
  | 37 => ⟨S49152x512, .f32⟩
  | 38 => ⟨S49152x512, .f32⟩
  | 39 => ⟨S49152x512, .f32⟩
  | 40 => ⟨S49152x512, .f32⟩
  | 41 => ⟨S_, .f32⟩
  | 42 => ⟨S49152x512, .f32⟩
  | 43 => ⟨S49152x512, .f32⟩
  | 44 => ⟨S_, .f32⟩
  | 45 => ⟨S49152x512, .f32⟩
  | 46 => ⟨S49152x512, .f32⟩
  | 47 => ⟨S49152x512, .f32⟩
  | 48 => ⟨S512, .f32⟩
  | 49 => ⟨S49152x512, .f32⟩
  | 50 => ⟨S_, .f32⟩
  | 51 => ⟨S49152, .f32⟩
  | 52 => ⟨S49152x1, .f32⟩
  | 53 => ⟨S_, .f32⟩
  | 54 => ⟨S49152x1, .f32⟩
  | 55 => ⟨S49152x1, .f32⟩
  | 56 => ⟨S_, .f32⟩
  | 57 => ⟨S49152x1, .f32⟩
  | 58 => ⟨S49152x1, .f32⟩
  | 59 => ⟨S49152x1, .f32⟩
  | 60 => ⟨S49152x512, .f32⟩
  | 61 => ⟨S49152x512, .f32⟩
  | 62 => ⟨S1x512, .f32⟩
  | 63 => ⟨S49152x512, .f32⟩
  | 64 => ⟨S49152x512, .f32⟩
  | 65 => ⟨S512, .f32⟩
  | 66 => ⟨S49152x512, .f32⟩
  | 67 => ⟨S_, .f32⟩
  | 68 => ⟨S49152, .f32⟩
  | 69 => ⟨S49152x1, .f32⟩
  | 70 => ⟨S_, .f32⟩
  | 71 => ⟨S49152x1, .f32⟩
  | 72 => ⟨S49152x1, .f32⟩
  | 73 => ⟨S_, .f32⟩
  | 74 => ⟨S49152x1, .f32⟩
  | 75 => ⟨S49152x1, .f32⟩
  | 76 => ⟨S49152x1, .f32⟩
  | 77 => ⟨S49152x512, .f32⟩
  | 78 => ⟨S49152x512, .f32⟩
  | 79 => ⟨S1x512, .f32⟩
  | 80 => ⟨S49152x512, .f32⟩
  | 81 => ⟨S49152x512, .f32⟩
  | 82 => ⟨S49152x1024, .f32⟩
  | 83 => ⟨S1024x1024, .f32⟩
  | 84 => ⟨S49152x1024, .f32⟩
  | 85 => ⟨S49152x1024, .f32⟩
  | 86 => ⟨S1024, .f32⟩
  | 87 => ⟨S49152x1024, .f32⟩
  | 88 => ⟨S_, .f32⟩
  | 89 => ⟨S49152, .f32⟩
  | 90 => ⟨S49152x1, .f32⟩
  | 91 => ⟨S_, .f32⟩
  | 92 => ⟨S49152x1, .f32⟩
  | 93 => ⟨S49152x1, .f32⟩
  | 94 => ⟨S_, .f32⟩
  | 95 => ⟨S49152x1, .f32⟩
  | 96 => ⟨S49152x1, .f32⟩
  | 97 => ⟨S49152x1, .f32⟩
  | 98 => ⟨S49152x1024, .f32⟩
  | 99 => ⟨S49152x1024, .f32⟩
  | 100 => ⟨S1x1024, .f32⟩
  | 101 => ⟨S49152x1024, .f32⟩
  | 102 => ⟨S49152x1024, .f32⟩
  | 103 => ⟨S1024x4096, .f32⟩
  | 104 => ⟨S49152x4096, .f32⟩
  | 105 => ⟨S_, .f32⟩
  | 106 => ⟨S49152x4096, .f32⟩
  | 107 => ⟨S49152x4096, .f32⟩
  | 108 => ⟨S49152x4096, .f32⟩
  | 109 => ⟨S4096x1024, .f32⟩
  | 110 => ⟨S49152x1024, .f32⟩
  | 111 => ⟨S49152x1024, .f32⟩
  | 112 => ⟨S1024, .f32⟩
  | 113 => ⟨S49152x1024, .f32⟩
  | 114 => ⟨S_, .f32⟩
  | 115 => ⟨S49152, .f32⟩
  | 116 => ⟨S49152x1, .f32⟩
  | 117 => ⟨S_, .f32⟩
  | 118 => ⟨S49152x1, .f32⟩
  | 119 => ⟨S49152x1, .f32⟩
  | 120 => ⟨S_, .f32⟩
  | 121 => ⟨S49152x1, .f32⟩
  | 122 => ⟨S49152x1, .f32⟩
  | 123 => ⟨S49152x1, .f32⟩
  | 124 => ⟨S49152x1024, .f32⟩
  | 125 => ⟨S49152x1024, .f32⟩
  | 126 => ⟨S1x1024, .f32⟩
  | 127 => ⟨S49152x1024, .f32⟩
  | _ => ⟨S49152x1024, .f32⟩

abbrev hbmTy0_1 (i : Nat) : BufTy := match i % 128 with
  | 0 => ⟨S49152x1024, .f32⟩
  | 1 => ⟨S1024x1024, .f32⟩
  | 2 => ⟨S49152x1024, .f32⟩
  | 3 => ⟨S49152x1024, .f32⟩
  | 4 => ⟨S49152x1024, .f32⟩
  | 5 => ⟨S_, .f32⟩
  | 6 => ⟨S49152x1024, .f32⟩
  | 7 => ⟨S49152x1024, .f32⟩
  | 8 => ⟨S_, .f32⟩
  | 9 => ⟨S49152x1024, .f32⟩
  | 10 => ⟨S49152x1024, .f32⟩
  | 11 => ⟨S256x1024, .f32⟩
  | 12 => ⟨S49152x1024, .f32⟩
  | 13 => ⟨S49152x1024, .f32⟩
  | 14 => ⟨S49152x1024, .f32⟩
  | 15 => ⟨S49152x1024, .f32⟩
  | 16 => ⟨S_, .f32⟩
  | 17 => ⟨S49152, .f32⟩
  | 18 => ⟨S49152x1, .f32⟩
  | 19 => ⟨S_, .f32⟩
  | 20 => ⟨S49152x1, .f32⟩
  | 21 => ⟨S49152x1, .f32⟩
  | 22 => ⟨S_, .f32⟩
  | 23 => ⟨S49152x1, .f32⟩
  | 24 => ⟨S49152x1, .f32⟩
  | 25 => ⟨S49152x1, .f32⟩
  | 26 => ⟨S49152x1024, .f32⟩
  | 27 => ⟨S49152x1024, .f32⟩
  | 28 => ⟨S1x1024, .f32⟩
  | 29 => ⟨S49152x1024, .f32⟩
  | 30 => ⟨S49152x1024, .f32⟩
  | _ => ⟨S49152x1024, .f32⟩

abbrev hbmTy (i : Nat) : BufTy := match i / 128 with
  | 0 => hbmTy0_0 i
  | 1 => hbmTy0_1 i
  | _ => ⟨S49152x1024, .f32⟩

abbrev bufTy : (tb : Table) → Fin (tcTables nBuf tb) → BufTy
  | .hbm, ⟨i, _⟩ => hbmTy i
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_cst_7 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_cst_10 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_11 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call0_cst : Ref sig .tc := ⟨.hbm, 105, rfl⟩
abbrev main_call0_v0 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_cst_16 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_17 : Ref sig .tc := ⟨.hbm, 133, rfl⟩
abbrev main_v97 : Ref sig .tc := ⟨.hbm, 134, rfl⟩
abbrev main_v98 : Ref sig .tc := ⟨.hbm, 135, rfl⟩
abbrev main_cst_18 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_v107 : Ref sig .tc := ⟨.hbm, 146, rfl⟩
abbrev main_cst_20 : Ref sig .tc := ⟨.hbm, 147, rfl⟩
abbrev main_v108 : Ref sig .tc := ⟨.hbm, 148, rfl⟩
abbrev main_v109 : Ref sig .tc := ⟨.hbm, 149, rfl⟩
abbrev main_cst_21 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩

abbrev nD : Nat := 1
abbrev τ : Topo := Topo.v7x

variable {F : FTy → Type} [FloatOps F]
-- ==== Att.lean ====
abbrev S49152x1536 : Shape := ⟨2, ![49152, 1536]⟩
abbrev S32x8 : Shape := ⟨2, ![32, 8]⟩
abbrev S3x511 : Shape := ⟨2, ![3, 511]⟩
abbrev S_ : Shape := ⟨0, ![]⟩
abbrev S3x511x1 : Shape := ⟨3, ![3, 511, 1]⟩
abbrev S3x511x8 : Shape := ⟨3, ![3, 511, 8]⟩
abbrev S3x128x256 : Shape := ⟨3, ![3, 128, 256]⟩
abbrev S3x128x256x1 : Shape := ⟨4, ![3, 128, 256, 1]⟩
abbrev S3x3x128x256x8 : Shape := ⟨5, ![3, 3, 128, 256, 8]⟩
abbrev S1x3x128x256x1 : Shape := ⟨5, ![1, 3, 128, 256, 1]⟩
abbrev S9x128x256x4x2 : Shape := ⟨5, ![9, 128, 256, 4, 2]⟩
abbrev S4x9x2x128x256 : Shape := ⟨5, ![4, 9, 2, 128, 256]⟩
abbrev S4x18x128x256 : Shape := ⟨4, ![4, 18, 128, 256]⟩
abbrev S49152x512 : Shape := ⟨2, ![49152, 512]⟩
abbrev S2048x128 : Shape := ⟨2, ![2048, 128]⟩
abbrev S8192x128 : Shape := ⟨2, ![8192, 128]⟩
abbrev S1x18x128x256 : Shape := ⟨4, ![1, 18, 128, 256]⟩
abbrev S3x2048x128 : Shape := ⟨3, ![3, 2048, 128]⟩
abbrev S128x128 : Shape := ⟨2, ![128, 128]⟩
abbrev S256x128 : Shape := ⟨2, ![256, 128]⟩
abbrev S128x256 : Shape := ⟨2, ![128, 256]⟩
abbrev S1x1x128x256 : Shape := ⟨4, ![1, 1, 128, 256]⟩
abbrev S128 : Shape := ⟨1, ![128]⟩
abbrev S128x1 : Shape := ⟨2, ![128, 1]⟩
abbrev S1x128x128 : Shape := ⟨3, ![1, 128, 128]⟩
abbrev S1x2048x128 : Shape := ⟨3, ![1, 2048, 128]⟩

abbrev nBuf : Space → Nat
  | .hbm => 50
  | .vmem => 12
  | .smem => 0
  | _ => 0

abbrev bufTy : (tb : Table) → Fin (tcTables nBuf tb) → BufTy
  | .hbm, ⟨0, _⟩ => ⟨S49152x1536, .f32⟩
  | .hbm, ⟨1, _⟩ => ⟨S32x8, .f32⟩
  | .hbm, ⟨2, _⟩ => ⟨S3x511, .i32⟩
  | .hbm, ⟨3, _⟩ => ⟨S_, .i32⟩
  | .hbm, ⟨4, _⟩ => ⟨S3x511, .i32⟩
  | .hbm, ⟨5, _⟩ => ⟨S3x511, .i1⟩
  | .hbm, ⟨6, _⟩ => ⟨S_, .i32⟩
  | .hbm, ⟨7, _⟩ => ⟨S3x511, .i32⟩
  | .hbm, ⟨8, _⟩ => ⟨S3x511, .i32⟩
  | .hbm, ⟨9, _⟩ => ⟨S3x511, .i32⟩
  | .hbm, ⟨10, _⟩ => ⟨S3x511x1, .i32⟩
  | .hbm, ⟨11, _⟩ => ⟨S3x511x8, .f32⟩
  | .hbm, ⟨12, _⟩ => ⟨S3x128x256, .i32⟩
  | .hbm, ⟨13, _⟩ => ⟨S3x128x256, .i32⟩
  | .hbm, ⟨14, _⟩ => ⟨S3x128x256, .i32⟩
  | .hbm, ⟨15, _⟩ => ⟨S3x128x256, .i32⟩
  | .hbm, ⟨16, _⟩ => ⟨S_, .i32⟩
  | .hbm, ⟨17, _⟩ => ⟨S3x128x256, .i32⟩
  | .hbm, ⟨18, _⟩ => ⟨S3x128x256, .i32⟩
  | .hbm, ⟨19, _⟩ => ⟨S3x128x256, .i32⟩
  | .hbm, ⟨20, _⟩ => ⟨S_, .i32⟩
  | .hbm, ⟨21, _⟩ => ⟨S3x128x256, .i32⟩
  | .hbm, ⟨22, _⟩ => ⟨S3x128x256, .i32⟩
  | .hbm, ⟨23, _⟩ => ⟨S_, .i32⟩
  | .hbm, ⟨24, _⟩ => ⟨S_, .i32⟩
  | .hbm, ⟨25, _⟩ => ⟨S3x128x256, .i32⟩
  | .hbm, ⟨26, _⟩ => ⟨S3x128x256, .i32⟩
  | .hbm, ⟨27, _⟩ => ⟨S3x128x256, .i32⟩
  | .hbm, ⟨28, _⟩ => ⟨S_, .i32⟩
  | .hbm, ⟨29, _⟩ => ⟨S3x128x256, .i32⟩
  | .hbm, ⟨30, _⟩ => ⟨S3x128x256, .i1⟩
  | .hbm, ⟨31, _⟩ => ⟨S_, .i32⟩
  | .hbm, ⟨32, _⟩ => ⟨S3x128x256, .i32⟩
  | .hbm, ⟨33, _⟩ => ⟨S3x128x256, .i32⟩
  | .hbm, ⟨34, _⟩ => ⟨S3x128x256, .i32⟩
  | .hbm, ⟨35, _⟩ => ⟨S3x128x256x1, .i32⟩
  | .hbm, ⟨36, _⟩ => ⟨S3x3x128x256x8, .f32⟩
  | .hbm, ⟨37, _⟩ => ⟨S3x128x256, .i32⟩
  | .hbm, ⟨38, _⟩ => ⟨S_, .i32⟩
  | .hbm, ⟨39, _⟩ => ⟨S3x128x256, .i32⟩
  | .hbm, ⟨40, _⟩ => ⟨S3x128x256, .i1⟩
  | .hbm, ⟨41, _⟩ => ⟨S1x3x128x256x1, .i1⟩
  | .hbm, ⟨42, _⟩ => ⟨S3x3x128x256x8, .i1⟩
  | .hbm, ⟨43, _⟩ => ⟨S_, .f32⟩
  | .hbm, ⟨44, _⟩ => ⟨S3x3x128x256x8, .f32⟩
  | .hbm, ⟨45, _⟩ => ⟨S3x3x128x256x8, .f32⟩
  | .hbm, ⟨46, _⟩ => ⟨S9x128x256x4x2, .f32⟩
  | .hbm, ⟨47, _⟩ => ⟨S4x9x2x128x256, .f32⟩
  | .hbm, ⟨48, _⟩ => ⟨S4x18x128x256, .f32⟩
  | .hbm, ⟨49, _⟩ => ⟨S49152x512, .f32⟩
  | .local _ .vmem, ⟨0, _⟩ => ⟨S2048x128, .f32⟩
  | .local _ .vmem, ⟨1, _⟩ => ⟨S2048x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S1x18x128x256, .f32⟩
  | .local _ .vmem, ⟨7, _⟩ => ⟨S1x18x128x256, .f32⟩
  | .local _ .vmem, ⟨8, _⟩ => ⟨S2048x128, .f32⟩
  | .local _ .vmem, ⟨9, _⟩ => ⟨S2048x128, .f32⟩
  | .local _ .vmem, ⟨10, _⟩ => ⟨S3x2048x128, .f32⟩
  | .local _ .vmem, ⟨11, _⟩ => ⟨S3x2048x128, .f32⟩
  | _, _ => ⟨S49152x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_3 : Ref sig .tc := ⟨.hbm, 20, rfl⟩
abbrev main_v14 : Ref sig .tc := ⟨.hbm, 21, rfl⟩
abbrev main_v15 : Ref sig .tc := ⟨.hbm, 22, rfl⟩
abbrev main_c_4 : Ref sig .tc := ⟨.hbm, 23, rfl⟩
abbrev main_c_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_6 : Ref sig .tc := ⟨.hbm, 28, rfl⟩
abbrev main_v19 : Ref sig .tc := ⟨.hbm, 29, rfl⟩
abbrev main_v20 : Ref sig .tc := ⟨.hbm, 30, rfl⟩
abbrev main_c_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_8 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![6, 4, 4], ![false, false, false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_22 : BitVec 32 := 1#32
  let c0_i32_23 : BitVec 32 := 0#32
  let v42 : BitVec 1 := Scalar.cmpi .eq c1_i32_22 c0_i32_23
  let c1_i32_24 : BitVec 32 := 1#32
  let v43 : BitVec 32 := Scalar.select v42 c1_i32_24 c1_i32_22
  let v44 : BitVec 32 := Scalar.remsi arg10 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c128_i32_35 : BitVec 32 := 128#32
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c1_i32_28 : BitVec 32 := 1#32
  let c0_i32_31 : BitVec 32 := 0#32
  let v58 : BitVec 1 := Scalar.cmpi .sgt c1_i32_28 c0_i32_31
  let v59 : BitVec 32 := Scalar.extui v58
  let c0_i32_32 : BitVec 32 := 0#32
  let v60 : BitVec 1 := Scalar.cmpi .slt c1_i32_28 c0_i32_32
  let v61 : BitVec 32 := Scalar.extui v60
  let v62 : BitVec 32 := Scalar.subi v59 v61
  let v63 : BitVec 1 := Scalar.cmpi .ne v57 v62
  let v64 : BitVec 32 := Scalar.remsi arg10 c1_i32_28
  let c0_i32_33 : BitVec 32 := 0#32
  let v65 : BitVec 1 := Scalar.cmpi .ne v64 c0_i32_33
  let v66 : BitVec 1 := Scalar.andi v63 v65
  let v52 : BitVec 32 := Scalar.divsi arg10 c1_i32_28
  let c1_i32_34 : BitVec 32 := 1#32
  let v67 : BitVec 32 := Scalar.subi v52 c1_i32_34
  let v68 : BitVec 32 := Scalar.select v66 v67 v52
  let v69 : BitVec 32 := Scalar.muli c128_i32_35 v68
  let v70 : BitVec 32 := Scalar.addi v51 v69
  let v82 : Index := Scalar.indexCast v70
  let c0_43 : Index := 0#32
  ![v82.toNat, 0]
def k0_off2 (i : grid0.Coords) (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_22 : BitVec 32 := 1#32
  let c0_i32_23 : BitVec 32 := 0#32
  let v42 : BitVec 1 := Scalar.cmpi .eq c1_i32_22 c0_i32_23
  let c1_i32_24 : BitVec 32 := 1#32
  let v43 : BitVec 32 := Scalar.select v42 c1_i32_24 c1_i32_22
  let v44 : BitVec 32 := Scalar.remsi arg10 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c1_i32_42 : BitVec 32 := 1#32
  let c7936_i32 : BitVec 32 := 7936#32
  let c0_i32_38 : BitVec 32 := 0#32
  let arg2 : BitVec 32 := BitVec.ofNat 32 (i 2).val
  let c2048_i32 : BitVec 32 := 2048#32
  let v3 : BitVec 32 := Scalar.muli arg2 c2048_i32
  let c128_i32_36 : BitVec 32 := 128#32
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c1_i32_28 : BitVec 32 := 1#32
  let c0_i32_31 : BitVec 32 := 0#32
  let v58 : BitVec 1 := Scalar.cmpi .sgt c1_i32_28 c0_i32_31
  let v59 : BitVec 32 := Scalar.extui v58
  let c0_i32_32 : BitVec 32 := 0#32
  let v60 : BitVec 1 := Scalar.cmpi .slt c1_i32_28 c0_i32_32
  let v61 : BitVec 32 := Scalar.extui v60
  let v62 : BitVec 32 := Scalar.subi v59 v61
  let v63 : BitVec 1 := Scalar.cmpi .ne v57 v62
  let v64 : BitVec 32 := Scalar.remsi arg10 c1_i32_28
  let c0_i32_33 : BitVec 32 := 0#32
  let v65 : BitVec 1 := Scalar.cmpi .ne v64 c0_i32_33
  let v66 : BitVec 1 := Scalar.andi v63 v65
  let v52 : BitVec 32 := Scalar.divsi arg10 c1_i32_28
  let c1_i32_34 : BitVec 32 := 1#32
  let v67 : BitVec 32 := Scalar.subi v52 c1_i32_34
  let v68 : BitVec 32 := Scalar.select v66 v67 v52
  let v71 : BitVec 32 := Scalar.muli c128_i32_36 v68
  let v72 : BitVec 32 := Scalar.addi v3 v71
  let c64_i32_37 : BitVec 32 := 64#32
  let v73 : BitVec 32 := Scalar.subi v72 c64_i32_37
  let v74 : BitVec 32 := Scalar.maxsi c0_i32_38 v73
  let v75 : BitVec 32 := Scalar.minsi c7936_i32 v74
  let v80 : BitVec 32 := Scalar.muli c1_i32_42 v75
  let v81 : BitVec 32 := Scalar.addi v51 v80
  let v84 : Index := Scalar.indexCast v81
  let c0_44 : Index := 0#32
  ![v84.toNat, 0]
def k0_off3 (i : grid0.Coords) (k0_t1 : Fin k0_t1_loop.trips) (c0_i32_51 : BitVec 32) : Fin 4 → Nat :=
  let c0_52 : Index := 0#32
  let c0_i32_49 : BitVec 32 := 0#32
  let arg2 : BitVec 32 := BitVec.ofNat 32 (i 2).val
  let c2048_i32 : BitVec 32 := 2048#32
  let v3 : BitVec 32 := Scalar.muli arg2 c2048_i32
  let c128_i32_36 : BitVec 32 := 128#32
  let c0_i32 : BitVec 32 := 0#32
  let c1_i32 : BitVec 32 := 1#32
  let arg10 : BitVec 32 := Scf.iv c0_i32 c1_i32 k0_t1
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c1_i32_28 : BitVec 32 := 1#32
  let c0_i32_31 : BitVec 32 := 0#32
  let v58 : BitVec 1 := Scalar.cmpi .sgt c1_i32_28 c0_i32_31
  let v59 : BitVec 32 := Scalar.extui v58
  let c0_i32_32 : BitVec 32 := 0#32
  let v60 : BitVec 1 := Scalar.cmpi .slt c1_i32_28 c0_i32_32
  let v61 : BitVec 32 := Scalar.extui v60
  let v62 : BitVec 32 := Scalar.subi v59 v61
  let v63 : BitVec 1 := Scalar.cmpi .ne v57 v62
  let v64 : BitVec 32 := Scalar.remsi arg10 c1_i32_28
  let c0_i32_33 : BitVec 32 := 0#32
  let v65 : BitVec 1 := Scalar.cmpi .ne v64 c0_i32_33
  let v66 : BitVec 1 := Scalar.andi v63 v65
  let v52 : BitVec 32 := Scalar.divsi arg10 c1_i32_28
  let c1_i32_34 : BitVec 32 := 1#32
  let v67 : BitVec 32 := Scalar.subi v52 c1_i32_34
  let v68 : BitVec 32 := Scalar.select v66 v67 v52
  let v71 : BitVec 32 := Scalar.muli c128_i32_36 v68
  let v72 : BitVec 32 := Scalar.addi v3 v71
  let c64_i32_39 : BitVec 32 := 64#32
  let v76 : BitVec 1 := Scalar.cmpi .slt v72 c64_i32_39
  let c0_i32_41 : BitVec 32 := 0#32
  let c8000_i32 : BitVec 32 := 8000#32
  let v77 : BitVec 1 := Scalar.cmpi .sgt v72 c8000_i32
  let c2_i32 : BitVec 32 := 2#32
  let c1_i32_40 : BitVec 32 := 1#32
  let v78 : BitVec 32 := Scalar.select v77 c2_i32 c1_i32_40
  let v79 : BitVec 32 := Scalar.select v76 c0_i32_41 v78
  let v96 : BitVec 32 := Scalar.addi c0_i32_49 v79
  let c2_i32_50 : BitVec 32 := 2#32
  let v97 : BitVec 32 := Scalar.muli v96 c2_i32_50
  let v98 : BitVec 32 := Scalar.addi v97 c0_i32_51
  let v99 : Index := Scalar.indexCast v98
  let c0_53 : Index := 0#32
  let c0_54 : Index := 0#32
  ![0, v99.toNat, 0, 0]
def k0_off4 (k0_t1 : Fin k0_t1_loop.trips) : Fin 3 → Nat :=
  let c0_70 : Index := 0#32
  let c0_i32 : BitVec 32 := 0#32
  let c1_i32 : BitVec 32 := 1#32
  let arg10 : BitVec 32 := Scf.iv c0_i32 c1_i32 k0_t1
  let c1_i32_22 : BitVec 32 := 1#32
  let c0_i32_23 : BitVec 32 := 0#32
  let v42 : BitVec 1 := Scalar.cmpi .eq c1_i32_22 c0_i32_23
  let c1_i32_24 : BitVec 32 := 1#32
  let v43 : BitVec 32 := Scalar.select v42 c1_i32_24 c1_i32_22
  let v44 : BitVec 32 := Scalar.remsi arg10 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c128_i32_35 : BitVec 32 := 128#32
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c1_i32_28 : BitVec 32 := 1#32
  let c0_i32_31 : BitVec 32 := 0#32
  let v58 : BitVec 1 := Scalar.cmpi .sgt c1_i32_28 c0_i32_31
  let v59 : BitVec 32 := Scalar.extui v58
  let c0_i32_32 : BitVec 32 := 0#32
  let v60 : BitVec 1 := Scalar.cmpi .slt c1_i32_28 c0_i32_32
  let v61 : BitVec 32 := Scalar.extui v60
  let v62 : BitVec 32 := Scalar.subi v59 v61
  let v63 : BitVec 1 := Scalar.cmpi .ne v57 v62
  let v64 : BitVec 32 := Scalar.remsi arg10 c1_i32_28
  let c0_i32_33 : BitVec 32 := 0#32
  let v65 : BitVec 1 := Scalar.cmpi .ne v64 c0_i32_33
  let v66 : BitVec 1 := Scalar.andi v63 v65
  let v52 : BitVec 32 := Scalar.divsi arg10 c1_i32_28
  let c1_i32_34 : BitVec 32 := 1#32
  let v67 : BitVec 32 := Scalar.subi v52 c1_i32_34
  let v68 : BitVec 32 := Scalar.select v66 v67 v52
  let v69 : BitVec 32 := Scalar.muli c128_i32_35 v68
  let v70 : BitVec 32 := Scalar.addi v51 v69
  let v147 : Index := Scalar.indexCast v70
  let c0_71 : Index := 0#32
  ![0, v147.toNat, 0]
@[reducible] def k0_t2_loop : Scf.Loop 32 :=
  let c0_i32_1 : BitVec 32 := 0#32
  let c16_i32_2 : BitVec 32 := 16#32
  let v6 : BitVec 32 := Scalar.addi c0_i32_1 c16_i32_2
  let c1_i32_3 : BitVec 32 := 1#32
  ⟨c0_i32_1, v6, c1_i32_3⟩
def k0_off5 (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c4_i32 : BitVec 32 := 4#32
  let c0_i32_22 : BitVec 32 := 0#32
  let v42 : BitVec 1 := Scalar.cmpi .eq c4_i32 c0_i32_22
  let c1_i32_23 : BitVec 32 := 1#32
  let v43 : BitVec 32 := Scalar.select v42 c1_i32_23 c4_i32
  let v44 : BitVec 32 := Scalar.remsi arg10 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c512_i32_34 : BitVec 32 := 512#32
  let c0_i32_28 : BitVec 32 := 0#32
  let v53 : BitVec 1 := Scalar.cmpi .sgt arg10 c0_i32_28
  let v54 : BitVec 32 := Scalar.extui v53
  let c0_i32_29 : BitVec 32 := 0#32
  let v55 : BitVec 1 := Scalar.cmpi .slt arg10 c0_i32_29
  let v56 : BitVec 32 := Scalar.extui v55
  let v57 : BitVec 32 := Scalar.subi v54 v56
  let c4_i32_27 : BitVec 32 := 4#32
  let c0_i32_30 : BitVec 32 := 0#32
  let v58 : BitVec 1 := Scalar.cmpi .sgt c4_i32_27 c0_i32_30
  let v59 : BitVec 32 := Scalar.extui v58
  let c0_i32_31 : BitVec 32 := 0#32
  let v60 : BitVec 1 := Scalar.cmpi .slt c4_i32_27 c0_i32_31
  let v61 : BitVec 32 := Scalar.extui v60
  let v62 : BitVec 32 := Scalar.subi v59 v61
  let v63 : BitVec 1 := Scalar.cmpi .ne v57 v62
  let v64 : BitVec 32 := Scalar.remsi arg10 c4_i32_27
  let c0_i32_32 : BitVec 32 := 0#32
  let v65 : BitVec 1 := Scalar.cmpi .ne v64 c0_i32_32
  let v66 : BitVec 1 := Scalar.andi v63 v65
  let v52 : BitVec 32 := Scalar.divsi arg10 c4_i32_27
  let c1_i32_33 : BitVec 32 := 1#32
  let v67 : BitVec 32 := Scalar.subi v52 c1_i32_33
  let v68 : BitVec 32 := Scalar.select v66 v67 v52
  let v69 : BitVec 32 := Scalar.muli c512_i32_34 v68
  let v70 : BitVec 32 := Scalar.addi v51 v69
  let v82 : Index := Scalar.indexCast v70
  let c0_42 : Index := 0#32
  ![v82.toNat, 0]
def k0_off6 (i : grid0.Coords) (k0_t2 : Fin k0_t2_loop.trips) : Fin 2 → Nat :=
  let c0_i32_1 : BitVec 32 := 0#32
  let c1_i32_3 : BitVec 32 := 1#32
  let arg10 : BitVec 32 := Scf.iv c0_i32_1 c1_i32_3 k0_t2
  let c4_i32 : BitVec 32 := 4#32
  let c0_i32_22 : BitVec 32 := 0#32
  let v42 : BitVec 1 := Scalar.cmpi .eq c4_i32 c0_i32_22
  let c1_i32_23 : BitVec 32 := 1#32
  let v43 : BitVec 32 := Scalar.select v42 c1_i32_23 c4_i32
  let v44 : BitVec 32 := Scalar.remsi arg10 v43
  let c0_i32_25 : BitVec 32 := 0#32
  let v46 : BitVec 1 := Scalar.cmpi .slt v44 c0_i32_25
  let c0_i32_26 : BitVec 32 := 0#32
  let v47 : BitVec 1 := Scalar.cmpi .slt v43 c0_i32_26
  let v48 : BitVec 1 := Scalar.xori v46 v47
  let c0_i32_24 : BitVec 32 := 0#32
  let v45 : BitVec 1 := Scalar.cmpi .ne v44 c0_i32_24
  let v49 : BitVec 1 := Scalar.andi v48 v45
  let v50 : BitVec 32 := Scalar.addi v44 v43
  let v51 : BitVec 32 := Scalar.select v49 v50 v44
  let c4_i32_41 : BitVec 32 := 4#32
  let c1792_i32 : BitVec 32 := 1792#32
  let c0_i32_37 : BitVec 32 := 0#32
  let arg2 : BitVec 32 := BitVec.ofNat 32 (i 2).val
  let c512_i32 : BitVec 32 := 512#32
  let v5 : BitVec 32 := Scalar.muli arg2 c512_i32
  let c128_i32_35 : BitVec 32 := 128#32
  let c0_i32_28 : BitVec 32 := 0#32
  let v53 : BitVec 1 := Scalar.cmpi .sgt arg10 c0_i32_28
  let v54 : BitVec 32 := Scalar.extui v53
  let c0_i32_29 : BitVec 32 := 0#32
  let v55 : BitVec 1 := Scalar.cmpi .slt arg10 c0_i32_29
  let v56 : BitVec 32 := Scalar.extui v55
  let v57 : BitVec 32 := Scalar.subi v54 v56
  let c4_i32_27 : BitVec 32 := 4#32
  let c0_i32_30 : BitVec 32 := 0#32
  let v58 : BitVec 1 := Scalar.cmpi .sgt c4_i32_27 c0_i32_30
  let v59 : BitVec 32 := Scalar.extui v58
  let c0_i32_31 : BitVec 32 := 0#32
  let v60 : BitVec 1 := Scalar.cmpi .slt c4_i32_27 c0_i32_31
  let v61 : BitVec 32 := Scalar.extui v60
  let v62 : BitVec 32 := Scalar.subi v59 v61
  let v63 : BitVec 1 := Scalar.cmpi .ne v57 v62
  let v64 : BitVec 32 := Scalar.remsi arg10 c4_i32_27
  let c0_i32_32 : BitVec 32 := 0#32
  let v65 : BitVec 1 := Scalar.cmpi .ne v64 c0_i32_32
  let v66 : BitVec 1 := Scalar.andi v63 v65
  let v52 : BitVec 32 := Scalar.divsi arg10 c4_i32_27
  let c1_i32_33 : BitVec 32 := 1#32
  let v67 : BitVec 32 := Scalar.subi v52 c1_i32_33
  let v68 : BitVec 32 := Scalar.select v66 v67 v52
  let v71 : BitVec 32 := Scalar.muli c128_i32_35 v68
  let v72 : BitVec 32 := Scalar.addi v5 v71
  let c64_i32_36 : BitVec 32 := 64#32
  let v73 : BitVec 32 := Scalar.subi v72 c64_i32_36
  let v74 : BitVec 32 := Scalar.maxsi c0_i32_37 v73
  let v75 : BitVec 32 := Scalar.minsi c1792_i32 v74
  let v80 : BitVec 32 := Scalar.muli c4_i32_41 v75
  let v81 : BitVec 32 := Scalar.addi v51 v80
  let v84 : Index := Scalar.indexCast v81
  let c0_43 : Index := 0#32
  ![v84.toNat, 0]
def k0_off7 (i : grid0.Coords) (k0_t2 : Fin k0_t2_loop.trips) (c0_i32_49 : BitVec 32) : Fin 4 → Nat :=
  let c0_50 : Index := 0#32
  let c3_i32 : BitVec 32 := 3#32
  let arg2 : BitVec 32 := BitVec.ofNat 32 (i 2).val
  let c512_i32 : BitVec 32 := 512#32
  let v5 : BitVec 32 := Scalar.muli arg2 c512_i32
  let c128_i32_35 : BitVec 32 := 128#32
  let c0_i32_1 : BitVec 32 := 0#32
  let c1_i32_3 : BitVec 32 := 1#32
  let arg10 : BitVec 32 := Scf.iv c0_i32_1 c1_i32_3 k0_t2
  let c0_i32_28 : BitVec 32 := 0#32
  let v53 : BitVec 1 := Scalar.cmpi .sgt arg10 c0_i32_28
  let v54 : BitVec 32 := Scalar.extui v53
  let c0_i32_29 : BitVec 32 := 0#32
  let v55 : BitVec 1 := Scalar.cmpi .slt arg10 c0_i32_29
  let v56 : BitVec 32 := Scalar.extui v55
  let v57 : BitVec 32 := Scalar.subi v54 v56
  let c4_i32_27 : BitVec 32 := 4#32
  let c0_i32_30 : BitVec 32 := 0#32
  let v58 : BitVec 1 := Scalar.cmpi .sgt c4_i32_27 c0_i32_30
  let v59 : BitVec 32 := Scalar.extui v58
  let c0_i32_31 : BitVec 32 := 0#32
  let v60 : BitVec 1 := Scalar.cmpi .slt c4_i32_27 c0_i32_31
  let v61 : BitVec 32 := Scalar.extui v60
  let v62 : BitVec 32 := Scalar.subi v59 v61
  let v63 : BitVec 1 := Scalar.cmpi .ne v57 v62
  let v64 : BitVec 32 := Scalar.remsi arg10 c4_i32_27
  let c0_i32_32 : BitVec 32 := 0#32
  let v65 : BitVec 1 := Scalar.cmpi .ne v64 c0_i32_32
  let v66 : BitVec 1 := Scalar.andi v63 v65
  let v52 : BitVec 32 := Scalar.divsi arg10 c4_i32_27
  let c1_i32_33 : BitVec 32 := 1#32
  let v67 : BitVec 32 := Scalar.subi v52 c1_i32_33
  let v68 : BitVec 32 := Scalar.select v66 v67 v52
  let v71 : BitVec 32 := Scalar.muli c128_i32_35 v68
  let v72 : BitVec 32 := Scalar.addi v5 v71
  let c64_i32_38 : BitVec 32 := 64#32
  let v76 : BitVec 1 := Scalar.cmpi .slt v72 c64_i32_38
  let c0_i32_40 : BitVec 32 := 0#32
  let c1856_i32 : BitVec 32 := 1856#32
  let v77 : BitVec 1 := Scalar.cmpi .sgt v72 c1856_i32
  let c2_i32 : BitVec 32 := 2#32
  let c1_i32_39 : BitVec 32 := 1#32
  let v78 : BitVec 32 := Scalar.select v77 c2_i32 c1_i32_39
  let v79 : BitVec 32 := Scalar.select v76 c0_i32_40 v78
  let v96 : BitVec 32 := Scalar.addi c3_i32 v79
  let c2_i32_48 : BitVec 32 := 2#32
  let v97 : BitVec 32 := Scalar.muli v96 c2_i32_48
  let v98 : BitVec 32 := Scalar.addi v97 c0_i32_49
  let v99 : Index := Scalar.indexCast v98
  let c0_51 : Index := 0#32
  let c0_52 : Index := 0#32
  ![0, v99.toNat, 0, 0]
@[reducible] def k0_t3_loop : Scf.Loop 32 :=
  let c0_i32_5 : BitVec 32 := 0#32
  let c16_i32_6 : BitVec 32 := 16#32
  let v8 : BitVec 32 := Scalar.addi c0_i32_5 c16_i32_6
  let c1_i32_7 : BitVec 32 := 1#32
  ⟨c0_i32_5, v8, c1_i32_7⟩
def k0_off8 (k0_t3 : Fin k0_t3_loop.trips) : Fin 2 → Nat :=
  let c0_i32_5 : BitVec 32 := 0#32
  let c1_i32_7 : BitVec 32 := 1#32
  let arg10 : BitVec 32 := Scf.iv c0_i32_5 c1_i32_7 k0_t3
  let c16_i32_22 : BitVec 32 := 16#32
  let c0_i32_23 : BitVec 32 := 0#32
  let v42 : BitVec 1 := Scalar.cmpi .eq c16_i32_22 c0_i32_23
  let c1_i32_24 : BitVec 32 := 1#32
  let v43 : BitVec 32 := Scalar.select v42 c1_i32_24 c16_i32_22
  let v44 : BitVec 32 := Scalar.remsi arg10 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c2048_i32_35 : BitVec 32 := 2048#32
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c16_i32_28 : BitVec 32 := 16#32
  let c0_i32_31 : BitVec 32 := 0#32
  let v58 : BitVec 1 := Scalar.cmpi .sgt c16_i32_28 c0_i32_31
  let v59 : BitVec 32 := Scalar.extui v58
  let c0_i32_32 : BitVec 32 := 0#32
  let v60 : BitVec 1 := Scalar.cmpi .slt c16_i32_28 c0_i32_32
  let v61 : BitVec 32 := Scalar.extui v60
  let v62 : BitVec 32 := Scalar.subi v59 v61
  let v63 : BitVec 1 := Scalar.cmpi .ne v57 v62
  let v64 : BitVec 32 := Scalar.remsi arg10 c16_i32_28
  let c0_i32_33 : BitVec 32 := 0#32
  let v65 : BitVec 1 := Scalar.cmpi .ne v64 c0_i32_33
  let v66 : BitVec 1 := Scalar.andi v63 v65
  let v52 : BitVec 32 := Scalar.divsi arg10 c16_i32_28
  let c1_i32_34 : BitVec 32 := 1#32
  let v67 : BitVec 32 := Scalar.subi v52 c1_i32_34
  let v68 : BitVec 32 := Scalar.select v66 v67 v52
  let v69 : BitVec 32 := Scalar.muli c2048_i32_35 v68
  let v70 : BitVec 32 := Scalar.addi v51 v69
  let v82 : Index := Scalar.indexCast v70
  let c0_43 : Index := 0#32
  ![v82.toNat, 0]
def k0_off9 (i : grid0.Coords) (k0_t3 : Fin k0_t3_loop.trips) : Fin 2 → Nat :=
  let c0_i32_5 : BitVec 32 := 0#32
  let c1_i32_7 : BitVec 32 := 1#32
  let arg10 : BitVec 32 := Scf.iv c0_i32_5 c1_i32_7 k0_t3
  let c16_i32_22 : BitVec 32 := 16#32
  let c0_i32_23 : BitVec 32 := 0#32
  let v42 : BitVec 1 := Scalar.cmpi .eq c16_i32_22 c0_i32_23
  let c1_i32_24 : BitVec 32 := 1#32
  let v43 : BitVec 32 := Scalar.select v42 c1_i32_24 c16_i32_22
  let v44 : BitVec 32 := Scalar.remsi arg10 v43
  let c0_i32_26 : BitVec 32 := 0#32
  let v46 : BitVec 1 := Scalar.cmpi .slt v44 c0_i32_26
  let c0_i32_27 : BitVec 32 := 0#32
  let v47 : BitVec 1 := Scalar.cmpi .slt v43 c0_i32_27
  let v48 : BitVec 1 := Scalar.xori v46 v47
  let c0_i32_25 : BitVec 32 := 0#32
  let v45 : BitVec 1 := Scalar.cmpi .ne v44 c0_i32_25
  let v49 : BitVec 1 := Scalar.andi v48 v45
  let v50 : BitVec 32 := Scalar.addi v44 v43
  let v51 : BitVec 32 := Scalar.select v49 v50 v44
  let c16_i32_42 : BitVec 32 := 16#32
  let c256_i32 : BitVec 32 := 256#32
  let c0_i32_38 : BitVec 32 := 0#32
  let arg2 : BitVec 32 := BitVec.ofNat 32 (i 2).val
  let c128_i32 : BitVec 32 := 128#32
  let v7 : BitVec 32 := Scalar.muli arg2 c128_i32
  let c128_i32_36 : BitVec 32 := 128#32
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c16_i32_28 : BitVec 32 := 16#32
  let c0_i32_31 : BitVec 32 := 0#32
  let v58 : BitVec 1 := Scalar.cmpi .sgt c16_i32_28 c0_i32_31
  let v59 : BitVec 32 := Scalar.extui v58
  let c0_i32_32 : BitVec 32 := 0#32
  let v60 : BitVec 1 := Scalar.cmpi .slt c16_i32_28 c0_i32_32
  let v61 : BitVec 32 := Scalar.extui v60
  let v62 : BitVec 32 := Scalar.subi v59 v61
  let v63 : BitVec 1 := Scalar.cmpi .ne v57 v62
  let v64 : BitVec 32 := Scalar.remsi arg10 c16_i32_28
  let c0_i32_33 : BitVec 32 := 0#32
  let v65 : BitVec 1 := Scalar.cmpi .ne v64 c0_i32_33
  let v66 : BitVec 1 := Scalar.andi v63 v65
  let v52 : BitVec 32 := Scalar.divsi arg10 c16_i32_28
  let c1_i32_34 : BitVec 32 := 1#32
  let v67 : BitVec 32 := Scalar.subi v52 c1_i32_34
  let v68 : BitVec 32 := Scalar.select v66 v67 v52
  let v71 : BitVec 32 := Scalar.muli c128_i32_36 v68
  let v72 : BitVec 32 := Scalar.addi v7 v71
  let c64_i32_37 : BitVec 32 := 64#32
  let v73 : BitVec 32 := Scalar.subi v72 c64_i32_37
  let v74 : BitVec 32 := Scalar.maxsi c0_i32_38 v73
  let v75 : BitVec 32 := Scalar.minsi c256_i32 v74
  let v80 : BitVec 32 := Scalar.muli c16_i32_42 v75
  let v81 : BitVec 32 := Scalar.addi v51 v80
  let v84 : Index := Scalar.indexCast v81
  let c0_44 : Index := 0#32
  ![v84.toNat, 0]
def k0_off10 (i : grid0.Coords) (k0_t3 : Fin k0_t3_loop.trips) (c0_i32_50 : BitVec 32) : Fin 4 → Nat :=
  let c0_51 : Index := 0#32
  let c6_i32 : BitVec 32 := 6#32
  let arg2 : BitVec 32 := BitVec.ofNat 32 (i 2).val
  let c128_i32 : BitVec 32 := 128#32
  let v7 : BitVec 32 := Scalar.muli arg2 c128_i32
  let c128_i32_36 : BitVec 32 := 128#32
  let c0_i32_5 : BitVec 32 := 0#32
  let c1_i32_7 : BitVec 32 := 1#32
  let arg10 : BitVec 32 := Scf.iv c0_i32_5 c1_i32_7 k0_t3
  let c0_i32_29 : BitVec 32 := 0#32
  let v53 : BitVec 1 := Scalar.cmpi .sgt arg10 c0_i32_29
  let v54 : BitVec 32 := Scalar.extui v53
  let c0_i32_30 : BitVec 32 := 0#32
  let v55 : BitVec 1 := Scalar.cmpi .slt arg10 c0_i32_30
  let v56 : BitVec 32 := Scalar.extui v55
  let v57 : BitVec 32 := Scalar.subi v54 v56
  let c16_i32_28 : BitVec 32 := 16#32
  let c0_i32_31 : BitVec 32 := 0#32
  let v58 : BitVec 1 := Scalar.cmpi .sgt c16_i32_28 c0_i32_31
  let v59 : BitVec 32 := Scalar.extui v58
  let c0_i32_32 : BitVec 32 := 0#32
  let v60 : BitVec 1 := Scalar.cmpi .slt c16_i32_28 c0_i32_32
  let v61 : BitVec 32 := Scalar.extui v60
  let v62 : BitVec 32 := Scalar.subi v59 v61
  let v63 : BitVec 1 := Scalar.cmpi .ne v57 v62
  let v64 : BitVec 32 := Scalar.remsi arg10 c16_i32_28
  let c0_i32_33 : BitVec 32 := 0#32
  let v65 : BitVec 1 := Scalar.cmpi .ne v64 c0_i32_33
  let v66 : BitVec 1 := Scalar.andi v63 v65
  let v52 : BitVec 32 := Scalar.divsi arg10 c16_i32_28
  let c1_i32_34 : BitVec 32 := 1#32
  let v67 : BitVec 32 := Scalar.subi v52 c1_i32_34
  let v68 : BitVec 32 := Scalar.select v66 v67 v52
  let v71 : BitVec 32 := Scalar.muli c128_i32_36 v68
  let v72 : BitVec 32 := Scalar.addi v7 v71
  let c64_i32_39 : BitVec 32 := 64#32
  let v76 : BitVec 1 := Scalar.cmpi .slt v72 c64_i32_39
  let c0_i32_41 : BitVec 32 := 0#32
  let c320_i32 : BitVec 32 := 320#32
  let v77 : BitVec 1 := Scalar.cmpi .sgt v72 c320_i32
  let c2_i32 : BitVec 32 := 2#32
  let c1_i32_40 : BitVec 32 := 1#32
  let v78 : BitVec 32 := Scalar.select v77 c2_i32 c1_i32_40
  let v79 : BitVec 32 := Scalar.select v76 c0_i32_41 v78
  let v96 : BitVec 32 := Scalar.addi c6_i32 v79
  let c2_i32_49 : BitVec 32 := 2#32
  let v97 : BitVec 32 := Scalar.muli v96 c2_i32_49
  let v98 : BitVec 32 := Scalar.addi v97 c0_i32_50
  let v99 : Index := Scalar.indexCast v98
  let c0_52 : Index := 0#32
  let c0_53 : Index := 0#32
  ![0, v99.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x18x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== AttRefIdeal.lean ====
abbrev S49152x1536 : Shape := ⟨2, ![49152, 1536]⟩
abbrev S32x8 : Shape := ⟨2, ![32, 8]⟩
abbrev S3x511 : Shape := ⟨2, ![3, 511]⟩
abbrev S6x8192x3x8x64 : Shape := ⟨5, ![6, 8192, 3, 8, 64]⟩
abbrev S6x8192x1x8x64 : Shape := ⟨5, ![6, 8192, 1, 8, 64]⟩
abbrev S6x8192x8x64 : Shape := ⟨4, ![6, 8192, 8, 64]⟩
abbrev S64x192 : Shape := ⟨2, ![64, 192]⟩
abbrev S_ : Shape := ⟨0, ![]⟩
abbrev S3x511x1 : Shape := ⟨3, ![3, 511, 1]⟩
abbrev S3x511x8 : Shape := ⟨3, ![3, 511, 8]⟩
abbrev S64x192x1 : Shape := ⟨3, ![64, 192, 1]⟩
abbrev S3x64x192x8 : Shape := ⟨4, ![3, 64, 192, 8]⟩
abbrev S3x8x64x192 : Shape := ⟨4, ![3, 8, 64, 192]⟩
abbrev S1x8x64x192 : Shape := ⟨4, ![1, 8, 64, 192]⟩
abbrev S8x64x192 : Shape := ⟨3, ![8, 64, 192]⟩
abbrev S6x128x64x1x8x64 : Shape := ⟨6, ![6, 128, 64, 1, 8, 64]⟩
abbrev S6x8320x1x8x64 : Shape := ⟨5, ![6, 8320, 1, 8, 64]⟩
abbrev S6x130x64x1x8x64 : Shape := ⟨6, ![6, 130, 64, 1, 8, 64]⟩
abbrev S6x128x192x1x8x64 : Shape := ⟨6, ![6, 128, 192, 1, 8, 64]⟩
abbrev S128x192 : Shape := ⟨2, ![128, 192]⟩
abbrev S1x64x192 : Shape := ⟨3, ![1, 64, 192]⟩
abbrev S128x1x192 : Shape := ⟨3, ![128, 1, 192]⟩
abbrev S128x64x192 : Shape := ⟨3, ![128, 64, 192]⟩
abbrev S6x128x1x8x64x192 : Shape := ⟨6, ![6, 128, 1, 8, 64, 192]⟩
abbrev S1x1x1x8x64x192 : Shape := ⟨6, ![1, 1, 1, 8, 64, 192]⟩
abbrev S1x128x1x1x64x192 : Shape := ⟨6, ![1, 128, 1, 1, 64, 192]⟩
abbrev S6x128x1x8x64 : Shape := ⟨5, ![6, 128, 1, 8, 64]⟩
abbrev S6x128x1x8x64x1 : Shape := ⟨6, ![6, 128, 1, 8, 64, 1]⟩
abbrev S6x128x1x8x64x64 : Shape := ⟨6, ![6, 128, 1, 8, 64, 64]⟩
abbrev S6x128x64x1x8 : Shape := ⟨5, ![6, 128, 64, 1, 8]⟩
abbrev S6x128x64x1x8x1 : Shape := ⟨6, ![6, 128, 64, 1, 8, 1]⟩
abbrev S6x8192x8 : Shape := ⟨3, ![6, 8192, 8]⟩
abbrev S6x32x64x4x8x64 : Shape := ⟨6, ![6, 32, 64, 4, 8, 64]⟩
abbrev S6x2048x4x8x64 : Shape := ⟨5, ![6, 2048, 4, 8, 64]⟩
abbrev S6x2176x4x8x64 : Shape := ⟨5, ![6, 2176, 4, 8, 64]⟩
abbrev S6x34x64x4x8x64 : Shape := ⟨6, ![6, 34, 64, 4, 8, 64]⟩
abbrev S6x32x192x4x8x64 : Shape := ⟨6, ![6, 32, 192, 4, 8, 64]⟩
abbrev S32x192 : Shape := ⟨2, ![32, 192]⟩
abbrev S32x1x192 : Shape := ⟨3, ![32, 1, 192]⟩
abbrev S32x64x192 : Shape := ⟨3, ![32, 64, 192]⟩
abbrev S6x32x4x8x64x192 : Shape := ⟨6, ![6, 32, 4, 8, 64, 192]⟩
abbrev S1x32x1x1x64x192 : Shape := ⟨6, ![1, 32, 1, 1, 64, 192]⟩
abbrev S6x32x4x8x64 : Shape := ⟨5, ![6, 32, 4, 8, 64]⟩
abbrev S6x32x4x8x64x1 : Shape := ⟨6, ![6, 32, 4, 8, 64, 1]⟩
abbrev S6x32x4x8x64x64 : Shape := ⟨6, ![6, 32, 4, 8, 64, 64]⟩
abbrev S6x32x64x4x8 : Shape := ⟨5, ![6, 32, 64, 4, 8]⟩
abbrev S6x32x64x4x8x1 : Shape := ⟨6, ![6, 32, 64, 4, 8, 1]⟩
abbrev S6x8x64x16x8x64 : Shape := ⟨6, ![6, 8, 64, 16, 8, 64]⟩
abbrev S6x512x16x8x64 : Shape := ⟨5, ![6, 512, 16, 8, 64]⟩
abbrev S6x640x16x8x64 : Shape := ⟨5, ![6, 640, 16, 8, 64]⟩
abbrev S6x10x64x16x8x64 : Shape := ⟨6, ![6, 10, 64, 16, 8, 64]⟩
abbrev S6x8x192x16x8x64 : Shape := ⟨6, ![6, 8, 192, 16, 8, 64]⟩
abbrev S8x192 : Shape := ⟨2, ![8, 192]⟩
abbrev S8x1x192 : Shape := ⟨3, ![8, 1, 192]⟩
abbrev S6x8x16x8x64x192 : Shape := ⟨6, ![6, 8, 16, 8, 64, 192]⟩
abbrev S1x8x1x1x64x192 : Shape := ⟨6, ![1, 8, 1, 1, 64, 192]⟩
abbrev S6x8x16x8x64 : Shape := ⟨5, ![6, 8, 16, 8, 64]⟩
abbrev S6x8x16x8x64x1 : Shape := ⟨6, ![6, 8, 16, 8, 64, 1]⟩
abbrev S6x8x16x8x64x64 : Shape := ⟨6, ![6, 8, 16, 8, 64, 64]⟩
abbrev S6x8x64x16x8 : Shape := ⟨5, ![6, 8, 64, 16, 8]⟩
abbrev S6x8x64x16x8x1 : Shape := ⟨6, ![6, 8, 64, 16, 8, 1]⟩
abbrev S1x6x8192x8 : Shape := ⟨4, ![1, 6, 8192, 8]⟩
abbrev S3x6x8192x8 : Shape := ⟨4, ![3, 6, 8192, 8]⟩
abbrev S3x6x8192x8x1 : Shape := ⟨5, ![3, 6, 8192, 8, 1]⟩
abbrev S1x6x8192x8x64 : Shape := ⟨5, ![1, 6, 8192, 8, 64]⟩
abbrev S3x6x8192x8x64 : Shape := ⟨5, ![3, 6, 8192, 8, 64]⟩
abbrev S49152x512 : Shape := ⟨2, ![49152, 512]⟩

abbrev nBuf : Space → Nat
  | .hbm => 286
  | .vmem => 0
  | .smem => 0
  | _ => 0

abbrev hbmTy0_0 (i : Nat) : BufTy := match i % 128 with
  | 0 => ⟨S49152x1536, .f32⟩
  | 1 => ⟨S32x8, .f32⟩
  | 2 => ⟨S3x511, .i32⟩
  | 3 => ⟨S6x8192x3x8x64, .f32⟩
  | 4 => ⟨S6x8192x1x8x64, .f32⟩
  | 5 => ⟨S6x8192x8x64, .f32⟩
  | 6 => ⟨S6x8192x1x8x64, .f32⟩
  | 7 => ⟨S6x8192x8x64, .f32⟩
  | 8 => ⟨S6x8192x1x8x64, .f32⟩
  | 9 => ⟨S6x8192x8x64, .f32⟩
  | 10 => ⟨S64x192, .i32⟩
  | 11 => ⟨S64x192, .i32⟩
  | 12 => ⟨S64x192, .i32⟩
  | 13 => ⟨S_, .i32⟩
  | 14 => ⟨S64x192, .i32⟩
  | 15 => ⟨S64x192, .i32⟩
  | 16 => ⟨S64x192, .i32⟩
  | 17 => ⟨S_, .i32⟩
  | 18 => ⟨S64x192, .i32⟩
  | 19 => ⟨S64x192, .i1⟩
  | 20 => ⟨S_, .i32⟩
  | 21 => ⟨S3x511, .i32⟩
  | 22 => ⟨S3x511, .i1⟩
  | 23 => ⟨S_, .i32⟩
  | 24 => ⟨S3x511, .i32⟩
  | 25 => ⟨S3x511, .i32⟩
  | 26 => ⟨S3x511, .i32⟩
  | 27 => ⟨S3x511x1, .i32⟩
  | 28 => ⟨S3x511x8, .f32⟩
  | 29 => ⟨S_, .i32⟩
  | 30 => ⟨S64x192, .i32⟩
  | 31 => ⟨S64x192, .i32⟩
  | 32 => ⟨S_, .i32⟩
  | 33 => ⟨S64x192, .i32⟩
  | 34 => ⟨S64x192, .i1⟩
  | 35 => ⟨S_, .i32⟩
  | 36 => ⟨S64x192, .i32⟩
  | 37 => ⟨S64x192, .i32⟩
  | 38 => ⟨S64x192, .i32⟩
  | 39 => ⟨S64x192x1, .i32⟩
  | 40 => ⟨S3x64x192x8, .f32⟩
  | 41 => ⟨S3x8x64x192, .f32⟩
  | 42 => ⟨S1x8x64x192, .f32⟩
  | 43 => ⟨S8x64x192, .f32⟩
  | 44 => ⟨S6x128x64x1x8x64, .f32⟩
  | 45 => ⟨S6x8192x1x8x64, .f32⟩
  | 46 => ⟨S_, .f32⟩
  | 47 => ⟨S6x8320x1x8x64, .f32⟩
  | 48 => ⟨S6x130x64x1x8x64, .f32⟩
  | 49 => ⟨S6x128x64x1x8x64, .f32⟩
  | 50 => ⟨S6x128x64x1x8x64, .f32⟩
  | 51 => ⟨S6x128x64x1x8x64, .f32⟩
  | 52 => ⟨S6x128x192x1x8x64, .f32⟩
  | 53 => ⟨S6x8192x1x8x64, .f32⟩
  | 54 => ⟨S_, .f32⟩
  | 55 => ⟨S6x8320x1x8x64, .f32⟩
  | 56 => ⟨S6x130x64x1x8x64, .f32⟩
  | 57 => ⟨S6x128x64x1x8x64, .f32⟩
  | 58 => ⟨S6x128x64x1x8x64, .f32⟩
  | 59 => ⟨S6x128x64x1x8x64, .f32⟩
  | 60 => ⟨S6x128x192x1x8x64, .f32⟩
  | 61 => ⟨S128x192, .i32⟩
  | 62 => ⟨S_, .i32⟩
  | 63 => ⟨S128x192, .i32⟩
  | 64 => ⟨S128x192, .i32⟩
  | 65 => ⟨S128x192, .i32⟩
  | 66 => ⟨S128x192, .i32⟩
  | 67 => ⟨S_, .i32⟩
  | 68 => ⟨S128x192, .i32⟩
  | 69 => ⟨S128x192, .i32⟩
  | 70 => ⟨S1x64x192, .i1⟩
  | 71 => ⟨S_, .i32⟩
  | 72 => ⟨S128x192, .i32⟩
  | 73 => ⟨S128x192, .i1⟩
  | 74 => ⟨S_, .i32⟩
  | 75 => ⟨S128x192, .i32⟩
  | 76 => ⟨S128x192, .i1⟩
  | 77 => ⟨S128x192, .i1⟩
  | 78 => ⟨S128x1x192, .i1⟩
  | 79 => ⟨S128x64x192, .i1⟩
  | 80 => ⟨S128x64x192, .i1⟩
  | 81 => ⟨S128x64x192, .i1⟩
  | 82 => ⟨S6x128x1x8x64x192, .f32⟩
  | 83 => ⟨S_, .f32⟩
  | 84 => ⟨S6x128x1x8x64x192, .f32⟩
  | 85 => ⟨S6x128x1x8x64x192, .f32⟩
  | 86 => ⟨S1x1x1x8x64x192, .f32⟩
  | 87 => ⟨S6x128x1x8x64x192, .f32⟩
  | 88 => ⟨S6x128x1x8x64x192, .f32⟩
  | 89 => ⟨S1x128x1x1x64x192, .i1⟩
  | 90 => ⟨S_, .f32⟩
  | 91 => ⟨S_, .f32⟩
  | 92 => ⟨S6x128x1x8x64x192, .i1⟩
  | 93 => ⟨S6x128x1x8x64x192, .f32⟩
  | 94 => ⟨S6x128x1x8x64x192, .f32⟩
  | 95 => ⟨S_, .f32⟩
  | 96 => ⟨S6x128x1x8x64, .f32⟩
  | 97 => ⟨S6x128x1x8x64x1, .f32⟩
  | 98 => ⟨S6x128x1x8x64x192, .f32⟩
  | 99 => ⟨S6x128x1x8x64x192, .f32⟩
  | 100 => ⟨S6x128x1x8x64x192, .f32⟩
  | 101 => ⟨S_, .f32⟩
  | 102 => ⟨S6x128x1x8x64, .f32⟩
  | 103 => ⟨S6x128x1x8x64x64, .f32⟩
  | 104 => ⟨S6x128x64x1x8x64, .f32⟩
  | 105 => ⟨S6x128x64x1x8, .f32⟩
  | 106 => ⟨S6x128x64x1x8x1, .f32⟩
  | 107 => ⟨S6x128x64x1x8x64, .f32⟩
  | 108 => ⟨S6x128x64x1x8x64, .f32⟩
  | 109 => ⟨S6x128x1x8x64, .f32⟩
  | 110 => ⟨S6x128x1x8x64, .f32⟩
  | 111 => ⟨S6x128x64x1x8, .f32⟩
  | 112 => ⟨S6x8192x8x64, .f32⟩
  | 113 => ⟨S6x8192x8, .f32⟩
  | 114 => ⟨S1x8x64x192, .f32⟩
  | 115 => ⟨S8x64x192, .f32⟩
  | 116 => ⟨S6x32x64x4x8x64, .f32⟩
  | 117 => ⟨S6x2048x4x8x64, .f32⟩
  | 118 => ⟨S_, .f32⟩
  | 119 => ⟨S6x2176x4x8x64, .f32⟩
  | 120 => ⟨S6x34x64x4x8x64, .f32⟩
  | 121 => ⟨S6x32x64x4x8x64, .f32⟩
  | 122 => ⟨S6x32x64x4x8x64, .f32⟩
  | 123 => ⟨S6x32x64x4x8x64, .f32⟩
  | 124 => ⟨S6x32x192x4x8x64, .f32⟩
  | 125 => ⟨S6x2048x4x8x64, .f32⟩
  | 126 => ⟨S_, .f32⟩
  | 127 => ⟨S6x2176x4x8x64, .f32⟩
  | _ => ⟨S49152x1536, .f32⟩

abbrev hbmTy0_1 (i : Nat) : BufTy := match i % 128 with
  | 0 => ⟨S6x34x64x4x8x64, .f32⟩
  | 1 => ⟨S6x32x64x4x8x64, .f32⟩
  | 2 => ⟨S6x32x64x4x8x64, .f32⟩
  | 3 => ⟨S6x32x64x4x8x64, .f32⟩
  | 4 => ⟨S6x32x192x4x8x64, .f32⟩
  | 5 => ⟨S32x192, .i32⟩
  | 6 => ⟨S_, .i32⟩
  | 7 => ⟨S32x192, .i32⟩
  | 8 => ⟨S32x192, .i32⟩
  | 9 => ⟨S32x192, .i32⟩
  | 10 => ⟨S32x192, .i32⟩
  | 11 => ⟨S_, .i32⟩
  | 12 => ⟨S32x192, .i32⟩
  | 13 => ⟨S32x192, .i32⟩
  | 14 => ⟨S1x64x192, .i1⟩
  | 15 => ⟨S_, .i32⟩
  | 16 => ⟨S32x192, .i32⟩
  | 17 => ⟨S32x192, .i1⟩
  | 18 => ⟨S_, .i32⟩
  | 19 => ⟨S32x192, .i32⟩
  | 20 => ⟨S32x192, .i1⟩
  | 21 => ⟨S32x192, .i1⟩
  | 22 => ⟨S32x1x192, .i1⟩
  | 23 => ⟨S32x64x192, .i1⟩
  | 24 => ⟨S32x64x192, .i1⟩
  | 25 => ⟨S32x64x192, .i1⟩
  | 26 => ⟨S6x32x4x8x64x192, .f32⟩
  | 27 => ⟨S_, .f32⟩
  | 28 => ⟨S6x32x4x8x64x192, .f32⟩
  | 29 => ⟨S6x32x4x8x64x192, .f32⟩
  | 30 => ⟨S1x1x1x8x64x192, .f32⟩
  | 31 => ⟨S6x32x4x8x64x192, .f32⟩
  | 32 => ⟨S6x32x4x8x64x192, .f32⟩
  | 33 => ⟨S1x32x1x1x64x192, .i1⟩
  | 34 => ⟨S_, .f32⟩
  | 35 => ⟨S_, .f32⟩
  | 36 => ⟨S6x32x4x8x64x192, .i1⟩
  | 37 => ⟨S6x32x4x8x64x192, .f32⟩
  | 38 => ⟨S6x32x4x8x64x192, .f32⟩
  | 39 => ⟨S_, .f32⟩
  | 40 => ⟨S6x32x4x8x64, .f32⟩
  | 41 => ⟨S6x32x4x8x64x1, .f32⟩
  | 42 => ⟨S6x32x4x8x64x192, .f32⟩
  | 43 => ⟨S6x32x4x8x64x192, .f32⟩
  | 44 => ⟨S6x32x4x8x64x192, .f32⟩
  | 45 => ⟨S_, .f32⟩
  | 46 => ⟨S6x32x4x8x64, .f32⟩
  | 47 => ⟨S6x32x4x8x64x64, .f32⟩
  | 48 => ⟨S6x32x64x4x8x64, .f32⟩
  | 49 => ⟨S6x32x64x4x8, .f32⟩
  | 50 => ⟨S6x32x64x4x8x1, .f32⟩
  | 51 => ⟨S6x32x64x4x8x64, .f32⟩
  | 52 => ⟨S6x32x64x4x8x64, .f32⟩
  | 53 => ⟨S6x32x4x8x64, .f32⟩
  | 54 => ⟨S6x32x4x8x64, .f32⟩
  | 55 => ⟨S6x32x64x4x8, .f32⟩
  | 56 => ⟨S6x8192x8x64, .f32⟩
  | 57 => ⟨S6x8192x8, .f32⟩
  | 58 => ⟨S1x8x64x192, .f32⟩
  | 59 => ⟨S8x64x192, .f32⟩
  | 60 => ⟨S6x8x64x16x8x64, .f32⟩
  | 61 => ⟨S6x512x16x8x64, .f32⟩
  | 62 => ⟨S_, .f32⟩
  | 63 => ⟨S6x640x16x8x64, .f32⟩
  | 64 => ⟨S6x10x64x16x8x64, .f32⟩
  | 65 => ⟨S6x8x64x16x8x64, .f32⟩
  | 66 => ⟨S6x8x64x16x8x64, .f32⟩
  | 67 => ⟨S6x8x64x16x8x64, .f32⟩
  | 68 => ⟨S6x8x192x16x8x64, .f32⟩
  | 69 => ⟨S6x512x16x8x64, .f32⟩
  | 70 => ⟨S_, .f32⟩
  | 71 => ⟨S6x640x16x8x64, .f32⟩
  | 72 => ⟨S6x10x64x16x8x64, .f32⟩
  | 73 => ⟨S6x8x64x16x8x64, .f32⟩
  | 74 => ⟨S6x8x64x16x8x64, .f32⟩
  | 75 => ⟨S6x8x64x16x8x64, .f32⟩
  | 76 => ⟨S6x8x192x16x8x64, .f32⟩
  | 77 => ⟨S8x192, .i32⟩
  | 78 => ⟨S_, .i32⟩
  | 79 => ⟨S8x192, .i32⟩
  | 80 => ⟨S8x192, .i32⟩
  | 81 => ⟨S8x192, .i32⟩
  | 82 => ⟨S8x192, .i32⟩
  | 83 => ⟨S_, .i32⟩
  | 84 => ⟨S8x192, .i32⟩
  | 85 => ⟨S8x192, .i32⟩
  | 86 => ⟨S1x64x192, .i1⟩
  | 87 => ⟨S_, .i32⟩
  | 88 => ⟨S8x192, .i32⟩
  | 89 => ⟨S8x192, .i1⟩
  | 90 => ⟨S_, .i32⟩
  | 91 => ⟨S8x192, .i32⟩
  | 92 => ⟨S8x192, .i1⟩
  | 93 => ⟨S8x192, .i1⟩
  | 94 => ⟨S8x1x192, .i1⟩
  | 95 => ⟨S8x64x192, .i1⟩
  | 96 => ⟨S8x64x192, .i1⟩
  | 97 => ⟨S8x64x192, .i1⟩
  | 98 => ⟨S6x8x16x8x64x192, .f32⟩
  | 99 => ⟨S_, .f32⟩
  | 100 => ⟨S6x8x16x8x64x192, .f32⟩
  | 101 => ⟨S6x8x16x8x64x192, .f32⟩
  | 102 => ⟨S1x1x1x8x64x192, .f32⟩
  | 103 => ⟨S6x8x16x8x64x192, .f32⟩
  | 104 => ⟨S6x8x16x8x64x192, .f32⟩
  | 105 => ⟨S1x8x1x1x64x192, .i1⟩
  | 106 => ⟨S_, .f32⟩
  | 107 => ⟨S_, .f32⟩
  | 108 => ⟨S6x8x16x8x64x192, .i1⟩
  | 109 => ⟨S6x8x16x8x64x192, .f32⟩
  | 110 => ⟨S6x8x16x8x64x192, .f32⟩
  | 111 => ⟨S_, .f32⟩
  | 112 => ⟨S6x8x16x8x64, .f32⟩
  | 113 => ⟨S6x8x16x8x64x1, .f32⟩
  | 114 => ⟨S6x8x16x8x64x192, .f32⟩
  | 115 => ⟨S6x8x16x8x64x192, .f32⟩
  | 116 => ⟨S6x8x16x8x64x192, .f32⟩
  | 117 => ⟨S_, .f32⟩
  | 118 => ⟨S6x8x16x8x64, .f32⟩
  | 119 => ⟨S6x8x16x8x64x64, .f32⟩
  | 120 => ⟨S6x8x64x16x8x64, .f32⟩
  | 121 => ⟨S6x8x64x16x8, .f32⟩
  | 122 => ⟨S6x8x64x16x8x1, .f32⟩
  | 123 => ⟨S6x8x64x16x8x64, .f32⟩
  | 124 => ⟨S6x8x64x16x8x64, .f32⟩
  | 125 => ⟨S6x8x16x8x64, .f32⟩
  | 126 => ⟨S6x8x16x8x64, .f32⟩
  | 127 => ⟨S6x8x64x16x8, .f32⟩
  | _ => ⟨S49152x1536, .f32⟩

abbrev hbmTy0_2 (i : Nat) : BufTy := match i % 128 with
  | 0 => ⟨S6x8192x8x64, .f32⟩
  | 1 => ⟨S6x8192x8, .f32⟩
  | 2 => ⟨S1x6x8192x8, .f32⟩
  | 3 => ⟨S1x6x8192x8, .f32⟩
  | 4 => ⟨S1x6x8192x8, .f32⟩
  | 5 => ⟨S3x6x8192x8, .f32⟩
  | 6 => ⟨S_, .f32⟩
  | 7 => ⟨S6x8192x8, .f32⟩
  | 8 => ⟨S_, .f32⟩
  | 9 => ⟨S6x8192x8, .f32⟩
  | 10 => ⟨S6x8192x8, .f32⟩
  | 11 => ⟨S1x6x8192x8, .f32⟩
  | 12 => ⟨S3x6x8192x8, .f32⟩
  | 13 => ⟨S3x6x8192x8, .f32⟩
  | 14 => ⟨S3x6x8192x8, .f32⟩
  | 15 => ⟨S_, .f32⟩
  | 16 => ⟨S6x8192x8, .f32⟩
  | 17 => ⟨S1x6x8192x8, .f32⟩
  | 18 => ⟨S3x6x8192x8, .f32⟩
  | 19 => ⟨S3x6x8192x8, .f32⟩
  | 20 => ⟨S3x6x8192x8x1, .f32⟩
  | 21 => ⟨S1x6x8192x8x64, .f32⟩
  | 22 => ⟨S1x6x8192x8x64, .f32⟩
  | 23 => ⟨S1x6x8192x8x64, .f32⟩
  | 24 => ⟨S3x6x8192x8x64, .f32⟩
  | 25 => ⟨S3x6x8192x8x64, .f32⟩
  | 26 => ⟨S3x6x8192x8x64, .f32⟩
  | 27 => ⟨S_, .f32⟩
  | 28 => ⟨S6x8192x8x64, .f32⟩
  | 29 => ⟨S49152x512, .f32⟩
  | _ => ⟨S49152x1536, .f32⟩

abbrev hbmTy (i : Nat) : BufTy := match i / 128 with
  | 0 => hbmTy0_0 i
  | 1 => hbmTy0_1 i
  | 2 => hbmTy0_2 i
  | _ => ⟨S49152x1536, .f32⟩

abbrev bufTy : (tb : Table) → Fin (tcTables nBuf tb) → BufTy
  | .hbm, ⟨i, _⟩ => hbmTy i
  | _, _ => ⟨S49152x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩
abbrev main_c_2 : Ref sig .tc := ⟨.hbm, 20, rfl⟩
abbrev main_v15 : Ref sig .tc := ⟨.hbm, 21, rfl⟩
abbrev main_v16 : Ref sig .tc := ⟨.hbm, 22, rfl⟩
abbrev main_c_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_4 : Ref sig .tc := ⟨.hbm, 29, rfl⟩
abbrev main_v22 : Ref sig .tc := ⟨.hbm, 30, rfl⟩
abbrev main_v23 : Ref sig .tc := ⟨.hbm, 31, rfl⟩
abbrev main_c_5 : Ref sig .tc := ⟨.hbm, 32, rfl⟩
abbrev main_v24 : Ref sig .tc := ⟨.hbm, 33, rfl⟩
abbrev main_v25 : Ref sig .tc := ⟨.hbm, 34, rfl⟩
abbrev main_c_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_8 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_c_10 : Ref sig .tc := ⟨.hbm, 71, rfl⟩
abbrev main_v57 : Ref sig .tc := ⟨.hbm, 72, rfl⟩
abbrev main_v58 : Ref sig .tc := ⟨.hbm, 73, rfl⟩
abbrev main_c_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_13 : Ref sig .tc := ⟨.hbm, 90, rfl⟩
abbrev main_call0_v0 : Ref sig .tc := ⟨.hbm, 91, rfl⟩
abbrev main_call0_v1 : Ref sig .tc := ⟨.hbm, 92, rfl⟩
abbrev main_call0_v2 : Ref sig .tc := ⟨.hbm, 93, rfl⟩
abbrev main_v73 : Ref sig .tc := ⟨.hbm, 94, rfl⟩
abbrev main_cst_14 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_15 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_16 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_cst_17 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_c_18 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_19 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_c_20 : Ref sig .tc := ⟨.hbm, 143, rfl⟩
abbrev main_v116 : Ref sig .tc := ⟨.hbm, 144, rfl⟩
abbrev main_v117 : Ref sig .tc := ⟨.hbm, 145, rfl⟩
abbrev main_c_21 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_cst_22 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_cst_23 : Ref sig .tc := ⟨.hbm, 162, rfl⟩
abbrev main_call1_v0 : Ref sig .tc := ⟨.hbm, 163, rfl⟩
abbrev main_call1_v1 : Ref sig .tc := ⟨.hbm, 164, rfl⟩
abbrev main_call1_v2 : Ref sig .tc := ⟨.hbm, 165, rfl⟩
abbrev main_v132 : Ref sig .tc := ⟨.hbm, 166, rfl⟩
abbrev main_cst_24 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_cst_25 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_26 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_cst_27 : Ref sig .tc := ⟨.hbm, 198, rfl⟩
abbrev main_v161 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_v166 : Ref sig .tc := ⟨.hbm, 204, rfl⟩
abbrev main_v167 : Ref sig .tc := ⟨.hbm, 205, rfl⟩
abbrev main_c_28 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_c_29 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_c_30 : Ref sig .tc := ⟨.hbm, 215, rfl⟩
abbrev main_v175 : Ref sig .tc := ⟨.hbm, 216, rfl⟩
abbrev main_v176 : Ref sig .tc := ⟨.hbm, 217, rfl⟩
abbrev main_c_31 : Ref sig .tc := ⟨.hbm, 218, rfl⟩
abbrev main_v177 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_cst_32 : Ref sig .tc := ⟨.hbm, 227, rfl⟩
abbrev main_v185 : Ref sig .tc := ⟨.hbm, 228, rfl⟩
abbrev main_v186 : Ref sig .tc := ⟨.hbm, 229, rfl⟩
abbrev main_v187 : Ref sig .tc := ⟨.hbm, 230, rfl⟩
abbrev main_v188 : Ref sig .tc := ⟨.hbm, 231, rfl⟩
abbrev main_v189 : Ref sig .tc := ⟨.hbm, 232, rfl⟩
abbrev main_v190 : Ref sig .tc := ⟨.hbm, 233, rfl⟩
abbrev main_cst_33 : Ref sig .tc := ⟨.hbm, 234, rfl⟩
abbrev main_call2_v0 : Ref sig .tc := ⟨.hbm, 235, rfl⟩
abbrev main_call2_v1 : Ref sig .tc := ⟨.hbm, 236, rfl⟩
abbrev main_call2_v2 : Ref sig .tc := ⟨.hbm, 237, rfl⟩
abbrev main_v191 : Ref sig .tc := ⟨.hbm, 238, rfl⟩
abbrev main_cst_34 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_cst_35 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_cst_36 : Ref sig .tc := ⟨.hbm, 262, rfl⟩
abbrev main_v213 : Ref sig .tc := ⟨.hbm, 263, rfl⟩
abbrev main_cst_37 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_cst_38 : Ref sig .tc := ⟨.hbm, 271, rfl⟩
abbrev main_v220 : Ref sig .tc := ⟨.hbm, 272, rfl⟩
abbrev main_v221 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_cst_39 : Ref sig .tc := ⟨.hbm, 283, rfl⟩
abbrev main_v231 : Ref sig .tc := ⟨.hbm, 284, rfl⟩
abbrev main_v232 : Ref sig .tc := ⟨.hbm, 285, rfl⟩

abbrev nD : Nat := 1
abbrev τ : Topo := Topo.v7x

variable {F : FTy → Type} [FloatOps F]
-- ==== InProj.lean ====
abbrev S49152x1024 : Shape := ⟨2, ![49152, 1024]⟩
abbrev S1x1024 : Shape := ⟨2, ![1, 1024]⟩
abbrev S1x1024x2048 : Shape := ⟨3, ![1, 1024, 2048]⟩
abbrev S1024 : Shape := ⟨1, ![1024]⟩
abbrev S1024x2048 : Shape := ⟨2, ![1024, 2048]⟩
abbrev S49152x1536 : Shape := ⟨2, ![49152, 1536]⟩
abbrev S49152x512 : Shape := ⟨2, ![49152, 512]⟩
abbrev S512x1024 : Shape := ⟨2, ![512, 1024]⟩
abbrev S512x1536 : Shape := ⟨2, ![512, 1536]⟩
abbrev S512x512 : Shape := ⟨2, ![512, 512]⟩
abbrev S512 : Shape := ⟨1, ![512]⟩
abbrev S512x1 : Shape := ⟨2, ![512, 1]⟩
abbrev S512x2048 : Shape := ⟨2, ![512, 2048]⟩

abbrev nBuf : Space → Nat
  | .hbm => 9
  | .vmem => 8
  | .smem => 0
  | _ => 0

abbrev bufTy : (tb : Table) → Fin (tcTables nBuf tb) → BufTy
  | .hbm, ⟨0, _⟩ => ⟨S49152x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S1024x2048, .f32⟩
  | .hbm, ⟨5, _⟩ => ⟨S1024x2048, .bf16⟩
  | .hbm, ⟨6, _⟩ => ⟨S1x1024, .f32⟩
  | .hbm, ⟨7, _⟩ => ⟨S49152x1536, .f32⟩
  | .hbm, ⟨8, _⟩ => ⟨S49152x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x1536, .f32⟩
  | .local _ .vmem, ⟨5, _⟩ => ⟨S512x1536, .f32⟩
  | .local _ .vmem, ⟨6, _⟩ => ⟨S512x512, .f32⟩
  | .local _ .vmem, ⟨7, _⟩ => ⟨S512x512, .f32⟩
  | _, _ => ⟨S49152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S49152x1024 : Shape := ⟨2, ![49152, 1024]⟩
abbrev S1x1024 : Shape := ⟨2, ![1, 1024]⟩
abbrev S1x1024x2048 : Shape := ⟨3, ![1, 1024, 2048]⟩
abbrev S1024 : Shape := ⟨1, ![1024]⟩
abbrev S_ : Shape := ⟨0, ![]⟩
abbrev S49152 : Shape := ⟨1, ![49152]⟩
abbrev S49152x1 : Shape := ⟨2, ![49152, 1]⟩
abbrev S1024x2048 : Shape := ⟨2, ![1024, 2048]⟩
abbrev S49152x2048 : Shape := ⟨2, ![49152, 2048]⟩
abbrev S49152x1536 : Shape := ⟨2, ![49152, 1536]⟩
abbrev S49152x512 : Shape := ⟨2, ![49152, 512]⟩

abbrev nBuf : Space → Nat
  | .hbm => 24
  | .vmem => 0
  | .smem => 0
  | _ => 0

abbrev bufTy : (tb : Table) → Fin (tcTables nBuf tb) → BufTy
  | .hbm, ⟨0, _⟩ => ⟨S49152x1024, .f32⟩
  | .hbm, ⟨1, _⟩ => ⟨S1x1024, .f32⟩
  | .hbm, ⟨2, _⟩ => ⟨S1x1024x2048, .f32⟩
  | .hbm, ⟨3, _⟩ => ⟨S1024, .f32⟩
  | .hbm, ⟨4, _⟩ => ⟨S49152x1024, .f32⟩
  | .hbm, ⟨5, _⟩ => ⟨S_, .f32⟩
  | .hbm, ⟨6, _⟩ => ⟨S49152, .f32⟩
  | .hbm, ⟨7, _⟩ => ⟨S49152x1, .f32⟩
  | .hbm, ⟨8, _⟩ => ⟨S_, .f32⟩
  | .hbm, ⟨9, _⟩ => ⟨S49152x1, .f32⟩
  | .hbm, ⟨10, _⟩ => ⟨S49152x1, .f32⟩
  | .hbm, ⟨11, _⟩ => ⟨S_, .f32⟩
  | .hbm, ⟨12, _⟩ => ⟨S49152x1, .f32⟩
  | .hbm, ⟨13, _⟩ => ⟨S49152x1, .f32⟩
  | .hbm, ⟨14, _⟩ => ⟨S49152x1, .f32⟩
  | .hbm, ⟨15, _⟩ => ⟨S49152x1024, .f32⟩
  | .hbm, ⟨16, _⟩ => ⟨S49152x1024, .f32⟩
  | .hbm, ⟨17, _⟩ => ⟨S1x1024, .f32⟩
  | .hbm, ⟨18, _⟩ => ⟨S49152x1024, .f32⟩
  | .hbm, ⟨19, _⟩ => ⟨S49152x1024, .f32⟩
  | .hbm, ⟨20, _⟩ => ⟨S1024x2048, .f32⟩
  | .hbm, ⟨21, _⟩ => ⟨S49152x2048, .f32⟩
  | .hbm, ⟨22, _⟩ => ⟨S49152x1536, .f32⟩
  | .hbm, ⟨23, _⟩ => ⟨S49152x512, .f32⟩
  | _, _ => ⟨S49152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Proof.Post.Stages.lean ====
/- The stages of the post-mixer half of the layer: what the kernel computes on a tile of rows is the reference's stage on those rows. -/
module

public import proofs.«01_k».proof.Proof.Gen.PostIdeal.Frame
public import proofs.«01_k».proof.Proof.Gen.PostRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.PostRefIdeal.Value

open Cert.PostRefIdeal Cert.PostRefIdeal.Gen

/-- The gelu of the scan's output. -/
def geluRef (Y : FVec Ideal S49152x512 .f32) : FVec Ideal S49152x512 .f32 :=
  mulf Y (mulf (broadcastInDim S49152x512 ![] bcast_S_S49152x512 (constant S_ .f32 0x3F000000#32)) (addf (broadcastInDim S49152x512 ![] bcast_S_S49152x512 (constant S_ .f32 0x3F800000#32)) (Host.tanh (mulf (broadcastInDim S49152x512 ![] bcast_S_S49152x512 (constant S_ .f32 0x3F4C422A#32)) (addf Y (mulf (broadcastInDim S49152x512 ![] bcast_S_S49152x512 (constant S_ .f32 0x3D372713#32)) (mulf (mulf Y Y) Y)))))))

/-- The gated output of the scan. -/
def ssmRef (Y : FVec Ideal S49152x512 .f32) (W : FVec Ideal S1x512x512 .f32) (b : FVec Ideal S1x512 .f32) : FVec Ideal S49152x512 .f32 :=
  mulf (geluRef Y) (Host.divf (broadcastInDim S49152x512 ![] bcast_S_S49152x512 (constant S_ .f32 0x3F800000#32)) (addf (broadcastInDim S49152x512 ![] bcast_S_S49152x512 (constant S_ .f32 0x3F800000#32)) (Host.exp (Host.negf (addf (Host.dotGeneral dot_S49152x512_S512x512_S49152x512_1_0_0_1_n_n none (geluRef Y) (shapeCast _ W shapeCasts_S1x512x512_S512x512)) (broadcastInDim S49152x512 ![0, 1] bcast_S1x512_S49152x512_0_1 (broadcastInDim S1x512 ![1] bcast_S512_S1x512_1 (shapeCast _ b shapeCasts_S1x512_S512))))))))

/-- Rows of 512, normalised by their root mean square and scaled. -/
def norm512 (A : FVec Ideal S49152x512 .f32) (g : FVec Ideal S1x512 .f32) : FVec Ideal S49152x512 .f32 :=
  mulf (mulf A (broadcastInDim S49152x512 ![0, 1] bcast_S49152x1_S49152x512_0_1 (Host.rsqrt (addf (Host.divf (broadcastInDim S49152x1 ![0] bcast_S49152_S49152x1_0 (Host.reduceAdd (mulf A A) (constant S_ .f32 0x00000000#32) reducesTo_S49152x512_S49152_d1 h_S_)) (broadcastInDim S49152x1 ![] bcast_S_S49152x1 (constant S_ .f32 0x44000000#32))) (broadcastInDim S49152x1 ![] bcast_S_S49152x1 (constant S_ .f32 0x358637BD#32)))))) (broadcastInDim S49152x512 ![0, 1] bcast_S1x512_S49152x512_0_1 (broadcastInDim S1x512 ![1] bcast_S512_S1x512_1 (shapeCast _ g shapeCasts_S1x512_S512)))

/-- Rows of 1024, normalised by their root mean square and scaled. -/
def norm1024 (A : FVec Ideal S49152x1024 .f32) (g : FVec Ideal S1x1024 .f32) : FVec Ideal S49152x1024 .f32 :=
  mulf (mulf A (broadcastInDim S49152x1024 ![0, 1] bcast_S49152x1_S49152x1024_0_1 (Host.rsqrt (addf (Host.divf (broadcastInDim S49152x1 ![0] bcast_S49152_S49152x1_0 (Host.reduceAdd (mulf A A) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 (shapeCast _ g shapeCasts_S1x1024_S1024)))

/-- The residual stream after the mixers. -/
def mixRef (X : FVec Ideal S49152x1024 .f32) (A S : FVec Ideal S49152x512 .f32) (ga gs : FVec Ideal S1x512 .f32) (W : FVec Ideal S1x1024x1024 .f32) : FVec Ideal S49152x1024 .f32 :=
  addf X (Host.dotGeneral dot_S49152x1024_S1024x1024_S49152x1024_1_0_0_1_n_n none (concatenate S49152x1024 1 [⟨S49152x512, norm512 A ga⟩, ⟨S49152x512, norm512 S gs⟩] concatenates_S49152x512_S49152x512_S49152x1024_d1) (shapeCast _ W shapeCasts_S1x1024x1024_S1024x1024))

/-- The rectified hidden layer of the feed-forward. -/
def hidRef (H : FVec Ideal S49152x1024 .f32) (g : FVec Ideal S1x1024 .f32) (W : FVec Ideal S1x1024x4096 .f32) : FVec Ideal S49152x4096 .f32 :=
  maximumf (Host.dotGeneral dot_S49152x1024_S1024x4096_S49152x4096_1_0_0_1_n_n none (norm1024 H g) (shapeCast _ W shapeCasts_S1x1024x4096_S1024x4096)) (broadcastInDim S49152x4096 ![] bcast_S_S49152x4096 (constant S_ .f32 0x00000000#32))

/-- The residual stream after the feed-forward. -/
def mlpRef (H : FVec Ideal S49152x1024 .f32) (g : FVec Ideal S1x1024 .f32) (W1 : FVec Ideal S1x1024x4096 .f32) (W2 : FVec Ideal S1x4096x1024 .f32) : FVec Ideal S49152x1024 .f32 :=
  addf H (Host.dotGeneral dot_S49152x4096_S4096x1024_S49152x1024_1_0_0_1_n_n none (mulf (hidRef H g W1) (hidRef H g W1)) (shapeCast _ W2 shapeCasts_S1x4096x1024_S4096x1024))

/-- The gate of the per-layer embedding. -/
def gateRef (H : FVec Ideal S49152x1024 .f32) (g : FVec Ideal S1x1024 .f32) (W : FVec Ideal S1x1024x1024 .f32) : FVec Ideal S49152x1024 .f32 :=
  Host.divf (broadcastInDim S49152x1024 ![] bcast_S_S49152x1024 (constant S_ .f32 0x3F800000#32)) (addf (broadcastInDim S49152x1024 ![] bcast_S_S49152x1024 (constant S_ .f32 0x3F800000#32)) (Host.exp (Host.negf (Host.dotGeneral dot_S49152x1024_S1024x1024_S49152x1024_1_0_0_1_n_n none (norm1024 H g) (shapeCast _ W shapeCasts_S1x1024x1024_S1024x1024)))))

/-- The residual stream after the per-layer embedding. -/
def pleRef (H : FVec Ideal S49152x1024 .f32) (P : FVec Ideal S49152x256 .f32) (g : FVec Ideal S1x1024 .f32) (Wg : FVec Ideal S1x1024x1024 .f32) (Wp : FVec Ideal S1x256x1024 .f32) : FVec Ideal S49152x1024 .f32 :=
  addf H (mulf (gateRef H g Wg) (Host.dotGeneral dot_S49152x256_S256x1024_S49152x1024_1_0_0_1_n_n none P (shapeCast _ Wp shapeCasts_S1x256x1024_S256x1024)))

/-- The last normalisation, whose scale has one axis. -/
def finRef (A : FVec Ideal S49152x1024 .f32) (g : FVec Ideal S1024 .f32) : FVec Ideal S49152x1024 .f32 :=
  mulf (mulf A (broadcastInDim S49152x1024 ![0, 1] bcast_S49152x1_S49152x1024_0_1 (Host.rsqrt (addf (Host.divf (broadcastInDim S49152x1 ![0] bcast_S49152_S49152x1_0 (Host.reduceAdd (mulf A A) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 g))

end Cert.PostRefIdeal.Value

namespace Cert.PostIdeal.Value

open Cert.PostIdeal Cert.PostIdeal.Gen Cert.PostRefIdeal.Value

variable (R : Fin 512 → Fin 49152)

/-- The gated scan output of a tile of rows. -/
theorem ssm_eq (y : Vec Ideal S512x512 .f32) (w : Vec Ideal S512x512 .bf16) (b : Vec Ideal S1x512 .f32)
    (Y : FVec Ideal S49152x512 .f32) (W : FVec Ideal S1x512x512 .f32) (B : FVec Ideal S1x512 .f32)
    (hy : ∀ (r k : Fin 512), y (ix2 r k) = Y (ix2 (R r) k)) (hw : ∀ (k j : Fin 512), w (ix2 k j) = W (ix3 0 k j))
    (hb : ∀ (j : Fin 512), b (ix2 0 j) = B (ix2 0 j)) (r j : Fin 512) :
    k0_pay2 y w b (ix2 r j) = ssmRef Y W B (ix2 (R r) j) := by
  have half : ∀ c u t : EReal, c * u * t = u * (c * t) := fun c u t => by rw [mul_comm c u, mul_assoc]
  pointwise [k0_pay2, ssmRef, geluRef, hy, hw, hb]
  simp only [zero_sub, half (Ideal.ofBits FTy.f32 1056964608#32)]

/-- The residual stream after the mixers, on a tile of rows: the concatenated product is the sum of the two halves' products. -/
theorem mix_eq (s a : FVec Ideal S512x512 .f32) (x : Vec Ideal S512x1024 .f32) (ga gs : Vec Ideal S1x512 .f32) (w1 w2 : Vec Ideal S512x1024 .bf16)
    (X : FVec Ideal S49152x1024 .f32) (A S : FVec Ideal S49152x512 .f32) (Ga Gs : FVec Ideal S1x512 .f32) (W : FVec Ideal S1x1024x1024 .f32)
    (ha : ∀ (r k : Fin 512), a (ix2 r k) = A (ix2 (R r) k)) (hs : ∀ (r k : Fin 512), s (ix2 r k) = S (ix2 (R r) k))
    (hx : ∀ (r : Fin 512) (k : Fin 1024), x (ix2 r k) = X (ix2 (R r) k))
    (hga : ∀ (j : Fin 512), ga (ix2 0 j) = Ga (ix2 0 j)) (hgs : ∀ (j : Fin 512), gs (ix2 0 j) = Gs (ix2 0 j))
    (hw1 : ∀ (k : Fin 512) (j : Fin 1024), w1 (ix2 k j) = W (ix3 0 ⟨k, by omega⟩ j))
    (hw2 : ∀ (k : Fin 512) (j : Fin 1024), w2 (ix2 k j) = W (ix3 0 ⟨512 + k, by omega⟩ j)) (r : Fin 512) (j : Fin 1024) :
    k0_pay5 s a (k0_pay3 ga) (k0_pay4 a) (Scalar.ofBits .f32 0x358637BD#32) gs x w1 w2 (ix2 r j) = mixRef X A S Ga Gs W (ix2 (R r) j) := by
  pointwise [k0_pay5, k0_pay3, k0_pay4, mixRef, norm512, ha, hs, hx, hga, hgs, hw1, hw2]

/-- The kernel's normalised rows, which are cast for the products. -/
theorem norm_eq (v29 v30 : FVec Ideal S512x512 .f32) (v32 : FVec Ideal S1x512 .f32) (v37 : FVec Ideal S512x1 .f32) (cst : Ideal .f32) (v45 : Vec Ideal S1x512 .f32)
    (v59 : Vec Ideal S512x1024 .f32) (v60 v64 : Vec Ideal S512x1024 .bf16) (g : Vec Ideal S1x1024 .f32)
    (H : FVec Ideal S49152x1024 .f32) (G : FVec Ideal S1x1024 .f32)
    (hh : ∀ (r : Fin 512) (k : Fin 1024), k0_pay5 v29 v30 v32 v37 cst v45 v59 v60 v64 (ix2 r k) = H (ix2 (R r) k))
    (hg : ∀ (j : Fin 1024), g (ix2 0 j) = G (ix2 0 j)) (r : Fin 512) (j : Fin 1024) :
    k0_pay8 (k0_pay5 v29 v30 v32 v37 cst v45 v59 v60 v64) (k0_pay6 g) (k0_pay7 v29 v30 v32 v37 cst v45 v59 v60 v64) (ix2 r j) = norm1024 H G (ix2 (R r) j) := by
  pointwise [k0_pay8, k0_pay6, k0_pay7, norm1024, hh, hg]

/-- The residual stream after the feed-forward, on a tile of rows: the hidden layer is contracted in four column tiles. -/
theorem mlp_eq (v69 : FVec Ideal S512x1024 .f32) (v71 : FVec Ideal S1x1024 .f32) (v79 : FVec Ideal S512x1 .f32)
    (a0 b0 a1 b1 a2 b2 a3 b3 : Vec Ideal S1024x1024 .bf16)
    (H : FVec Ideal S49152x1024 .f32) (G : FVec Ideal S1x1024 .f32) (W1 : FVec Ideal S1x1024x4096 .f32) (W2 : FVec Ideal S1x4096x1024 .f32)
    (hh : ∀ (r : Fin 512) (k : Fin 1024), v69 (ix2 r k) = H (ix2 (R r) k))
    (hf : ∀ (r : Fin 512) (k : Fin 1024), k0_pay8 v69 v71 v79 (ix2 r k) = norm1024 H G (ix2 (R r) k))
    (ha0 : ∀ (k j : Fin 1024), a0 (ix2 k j) = W1 (ix3 0 k ⟨0 * 1024 + j, by omega⟩))
    (ha1 : ∀ (k j : Fin 1024), a1 (ix2 k j) = W1 (ix3 0 k ⟨1 * 1024 + j, by omega⟩))
    (ha2 : ∀ (k j : Fin 1024), a2 (ix2 k j) = W1 (ix3 0 k ⟨2 * 1024 + j, by omega⟩))
    (ha3 : ∀ (k j : Fin 1024), a3 (ix2 k j) = W1 (ix3 0 k ⟨3 * 1024 + j, by omega⟩))
    (hb0 : ∀ (k j : Fin 1024), b0 (ix2 k j) = W2 (ix3 0 ⟨0 * 1024 + k, by omega⟩ j))
    (hb1 : ∀ (k j : Fin 1024), b1 (ix2 k j) = W2 (ix3 0 ⟨1 * 1024 + k, by omega⟩ j))
    (hb2 : ∀ (k j : Fin 1024), b2 (ix2 k j) = W2 (ix3 0 ⟨2 * 1024 + k, by omega⟩ j))
    (hb3 : ∀ (k j : Fin 1024), b3 (ix2 k j) = W2 (ix3 0 ⟨3 * 1024 + k, by omega⟩ j)) (r : Fin 512) (j : Fin 1024) :
    k0_pay11 v69 (k0_pay8 v69 v71 v79) (k0_pay9 v69 v71 v79 a0 b0 a1 b1) (k0_pay10 v69 v71 v79 a2 b2) a3 b3 (ix2 r j)
      = mlpRef H G W1 W2 (ix2 (R r) j) := by
  pointwise [k0_pay11, k0_pay9, k0_pay10, mlpRef, hidRef, hh, hf, ha0, ha1, ha2, ha3, hb0, hb1, hb2, hb3]
  rw [Fin.sum_univ_tiles 4 1024 rfl, Fin.sum_univ_four]
  rfl

/-- The gate of the per-layer embedding, on a tile of rows. -/
theorem gate_eq (v69 : FVec Ideal S512x1024 .f32) (v84 : FVec Ideal S512x1024 .bf16) (v107 v117 : FVec Ideal S512x1024 .f32) (v119 v125 : Vec Ideal S1024x1024 .bf16)
    (g : Vec Ideal S1x1024 .f32) (w : Vec Ideal S1024x1024 .bf16)
    (H : FVec Ideal S49152x1024 .f32) (G : FVec Ideal S1x1024 .f32) (W : FVec Ideal S1x1024x1024 .f32)
    (hh : ∀ (r : Fin 512) (k : Fin 1024), k0_pay11 v69 v84 v107 v117 v119 v125 (ix2 r k) = H (ix2 (R r) k))
    (hg : ∀ (j : Fin 1024), g (ix2 0 j) = G (ix2 0 j)) (hw : ∀ (k j : Fin 1024), w (ix2 k j) = W (ix3 0 k j)) (r : Fin 512) (j : Fin 1024) :
    k0_pay12 v69 v84 v107 v117 v119 v125 g w (ix2 r j) = gateRef H G W (ix2 (R r) j) := by
  pointwise [k0_pay12, gateRef, norm1024, hh, hg, hw]
  simp only [zero_sub]

/-- What is stored of a tile of rows. -/
theorem fin_eq (v130 v155 : FVec Ideal S512x1024 .f32) (p : Vec Ideal S512x256 .f32) (wp : Vec Ideal S256x1024 .bf16) (gf : Vec Ideal S1x1024 .f32)
    (H : FVec Ideal S49152x1024 .f32) (P : FVec Ideal S49152x256 .f32) (G : FVec Ideal S1x1024 .f32) (Wg : FVec Ideal S1x1024x1024 .f32)
    (Wp : FVec Ideal S1x256x1024 .f32) (Gf : FVec Ideal S1024 .f32)
    (hh : ∀ (r : Fin 512) (k : Fin 1024), v130 (ix2 r k) = H (ix2 (R r) k))
    (hgate : ∀ (r : Fin 512) (k : Fin 1024), v155 (ix2 r k) = gateRef H G Wg (ix2 (R r) k))
    (hp : ∀ (r : Fin 512) (k : Fin 256), p (ix2 r k) = P (ix2 (R r) k)) (hw : ∀ (k : Fin 256) (j : Fin 1024), wp (ix2 k j) = Wp (ix3 0 k j))
    (hgf : ∀ (j : Fin 1024), gf (ix2 0 j) = Gf (ix1 j)) (r : Fin 512) (j : Fin 1024) :
    k0_pay1 v130 v155 p wp gf (ix2 r j) = finRef (pleRef H P G Wg Wp) Gf (ix2 (R r) j) := by
  pointwise [k0_pay1, finRef, pleRef, hh, hgate, hp, hw, hgf]

end Cert.PostIdeal.Value

end
-- ==== Proof.Post.Blocks.lean ====
/- The post-mixer half of the layer: its reference as one function, and what each staged block holds. -/
module

public import proofs.«01_k».proof.Proof.Post.Stages

@[expose] public section

set_option maxRecDepth 16384

noncomputable section

open Idealize.ShloMosaic Idealize.ShloMosaic.TcCoe Idealize.SL.Sem
open Idealize.ShloMosaic.Pipeline (Dat)

namespace Cert.PostRefIdeal.Value

open Cert.PostRefIdeal Cert.PostRefIdeal.Gen Idealize.ShloMosaic.StableHlo

/-- The whole of the reference, of its arguments. -/
def postRef (X : FVec Ideal S49152x1024 .f32) (A Y : FVec Ideal S49152x512 .f32) (P : FVec Ideal S49152x256 .f32)
    (Wglu : FVec Ideal S1x512x512 .f32) (Bglu ga gs : FVec Ideal S1x512 .f32) (Wout : FVec Ideal S1x1024x1024 .f32) (gm : FVec Ideal S1x1024 .f32)
    (W1 : FVec Ideal S1x1024x4096 .f32) (W2 : FVec Ideal S1x4096x1024 .f32) (gp : FVec Ideal S1x1024 .f32)
    (Wg : FVec Ideal S1x1024x1024 .f32) (Wp : FVec Ideal S1x256x1024 .f32) (gf : FVec Ideal S1024 .f32) : FVec Ideal S49152x1024 .f32 :=
  finRef (pleRef (mlpRef (mixRef X A (ssmRef Y Wglu Bglu) ga gs Wout) gm W1 W2) P gp Wg Wp) gf

/-- The reference's composed result is the stages composed. -/
theorem stages (V0 : Valuation τ sig (Elt Ideal)) : val3 V0 (Proc.devRef .tc main_v117) = postRef (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  have h12 : res_main_v12 V0 = geluRef (V0 (Proc.devRef .tc main_arg2)) := rfl
  have h25 : res_main_v25 V0 = ssmRef (V0 (Proc.devRef .tc main_arg2)) (V0 (Proc.devRef .tc main_arg4)) (V0 (Proc.devRef .tc main_arg5)) := by
    unfold res_main_v25; rw [h12]; rfl
  have h57 : res_main_v57 V0 = mixRef (V0 (Proc.devRef .tc main_arg0)) (V0 (Proc.devRef .tc main_arg1)) (res_main_v25 V0) (V0 (Proc.devRef .tc main_arg6)) (V0 (Proc.devRef .tc main_arg7)) (V0 (Proc.devRef .tc main_arg8)) := rfl
  have h74 : res_main_v74 V0 = hidRef (res_main_v57 V0) (V0 (Proc.devRef .tc main_arg9)) (V0 (Proc.devRef .tc main_arg10)) := rfl
  have h78 : res_main_v78 V0 = mlpRef (res_main_v57 V0) (V0 (Proc.devRef .tc main_arg9)) (V0 (Proc.devRef .tc main_arg10)) (V0 (Proc.devRef .tc main_arg11)) := by
    unfold res_main_v78; rw [h74]; rfl
  have h104 : res_main_v104 V0 = pleRef (res_main_v78 V0) (V0 (Proc.devRef .tc main_arg3)) (V0 (Proc.devRef .tc main_arg12)) (V0 (Proc.devRef .tc main_arg13)) (V0 (Proc.devRef .tc main_arg14)) := rfl
  have hfin : val3 V0 (Proc.devRef .tc main_v117) = finRef (res_main_v104 V0) (V0 (Proc.devRef .tc main_arg15)) := val3_main_v117 V0
  rw [hfin, h104, h78, h57, h25]; rfl

/-- The reference runs to the stages composed, its arguments unchanged. -/
theorem run_stages (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v117) = postRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) :=
  (θ_run defs _ _).mono (fun _ h c => ⟨(h c).1.trans ((val3_main_v117 _).symm.trans (stages _)), (h c).2⟩) (run m ρ)

end Cert.PostRefIdeal.Value

namespace Cert.PostIdeal.Value

open Cert.PostIdeal Cert.PostIdeal.Gen Cert.PostRefIdeal.Value

variable (m : (ℓ : Loc nD τ sig) → Buf (Elt Ideal) ℓ)

/-- Which block each window takes at a grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, 0] ∧ win0_16.index t = ![t.val, 0] ∧ t.val < 96 :=
  (by decide +kernel : ∀ t : Fin grid0.N, _)

/-- The row of the array that is row `r` of the tile of point `t`. -/
def row (t : Fin cfg0.N) (r : Fin 512) : Fin 49152 :=
  ⟨t.val * 512 + r.val, by have := (idx t).2.2.2.2.2.2.2.2.2.2.2.2.2.2.2.2.2; omega⟩

theorem b0 (c : Dev nD) (t : Fin cfg0.N) (r : Fin 512) (k : Fin 1024) : iblk m c 0 t (ix2 r k) = m ((c : Thread nD τ).loc main_arg0) (ix2 (row t r) k) := by
  blk_point [iblk, V, idx t, row]
theorem b1 (c : Dev nD) (t : Fin cfg0.N) (r k : Fin 512) : iblk m c 1 t (ix2 r k) = m ((c : Thread nD τ).loc main_arg1) (ix2 (row t r) k) := by
  blk_point [iblk, V, idx t, row]
theorem b2 (c : Dev nD) (t : Fin cfg0.N) (r k : Fin 512) : iblk m c 2 t (ix2 r k) = m ((c : Thread nD τ).loc main_arg2) (ix2 (row t r) k) := by
  blk_point [iblk, V, idx t, row]
theorem b3 (c : Dev nD) (t : Fin cfg0.N) (r : Fin 512) (k : Fin 256) : iblk m c 3 t (ix2 r k) = m ((c : Thread nD τ).loc main_arg3) (ix2 (row t r) k) := by
  blk_point [iblk, V, idx t, row]
theorem b4 (c : Dev nD) (t : Fin cfg0.N) (k j : Fin 512) : iblk m c 4 t (ix2 k j) = m ((c : Thread nD τ).loc main_arg4) (ix3 0 k j) := by
  blk_point [iblk, V, idx t]
theorem b5 (c : Dev nD) (t : Fin cfg0.N) (j : Fin 512) : iblk m c 5 t (ix2 0 j) = m ((c : Thread nD τ).loc main_arg5) (ix2 0 j) := by
  blk_point [iblk, V, idx t]
theorem b6 (c : Dev nD) (t : Fin cfg0.N) (j : Fin 512) : iblk m c 6 t (ix2 0 j) = m ((c : Thread nD τ).loc main_arg6) (ix2 0 j) := by
  blk_point [iblk, V, idx t]
theorem b7 (c : Dev nD) (t : Fin cfg0.N) (j : Fin 512) : iblk m c 7 t (ix2 0 j) = m ((c : Thread nD τ).loc main_arg7) (ix2 0 j) := by
  blk_point [iblk, V, idx t]
theorem b8 (c : Dev nD) (t : Fin cfg0.N) (k j : Fin 1024) : iblk m c 8 t (ix2 k j) = m ((c : Thread nD τ).loc main_arg8) (ix3 0 k j) := by
  blk_point [iblk, V, idx t]
theorem b9 (c : Dev nD) (t : Fin cfg0.N) (j : Fin 1024) : iblk m c 9 t (ix2 0 j) = m ((c : Thread nD τ).loc main_arg9) (ix2 0 j) := by
  blk_point [iblk, V, idx t]
theorem b10 (c : Dev nD) (t : Fin cfg0.N) (k : Fin 1024) (j : Fin 4096) : iblk m c 10 t (ix2 k j) = m ((c : Thread nD τ).loc main_arg10) (ix3 0 k j) := by
  blk_point [iblk, V, idx t]
theorem b11 (c : Dev nD) (t : Fin cfg0.N) (k : Fin 4096) (j : Fin 1024) : iblk m c 11 t (ix2 k j) = m ((c : Thread nD τ).loc main_arg11) (ix3 0 k j) := by
  blk_point [iblk, V, idx t]
theorem b12 (c : Dev nD) (t : Fin cfg0.N) (j : Fin 1024) : iblk m c 12 t (ix2 0 j) = m ((c : Thread nD τ).loc main_arg12) (ix2 0 j) := by
  blk_point [iblk, V, idx t]
theorem b13 (c : Dev nD) (t : Fin cfg0.N) (k j : Fin 1024) : iblk m c 13 t (ix2 k j) = m ((c : Thread nD τ).loc main_arg13) (ix3 0 k j) := by
  blk_point [iblk, V, idx t]
theorem b14 (c : Dev nD) (t : Fin cfg0.N) (k : Fin 256) (j : Fin 1024) : iblk m c 14 t (ix2 k j) = m ((c : Thread nD τ).loc main_arg14) (ix3 0 k j) := by
  blk_point [iblk, V, idx t]
theorem b15 (c : Dev nD) (t : Fin cfg0.N) (j : Fin 1024) : iblk m c 15 t (ix2 0 j) = m ((c : Thread nD τ).loc main_arg15) (ix1 j) := by
  blk_point [iblk, V, idx t]

end Cert.PostIdeal.Value

end
-- ==== Proof.Post.Value.lean ====
/- The post-mixer half of the layer: the array the kernel leaves is the reference's. -/
module

public import proofs.«01_k».proof.Proof.Post.Blocks

@[expose] public section

set_option maxRecDepth 16384

noncomputable section

open Idealize.ShloMosaic Idealize.ShloMosaic.TcCoe Idealize.SL.Sem
open Idealize.ShloMosaic.Pipeline (Dat)

namespace Cert.PostIdeal.Value

open Cert.PostIdeal Cert.PostIdeal.Gen Cert.PostRefIdeal.Value

variable (m : (ℓ : Loc nD τ sig) → Buf (Elt Ideal) ℓ)

/-- The reference of the kernel's own arguments. -/
def result (c : Dev nD) : FVec Ideal S49152x1024 .f32 :=
  postRef (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- What the body stores of a tile of rows, from what its loads read, is the reference on those rows. -/
theorem tile_eq (R : Fin 512 → Fin 49152)
    (x0 : Vec Ideal S512x1024 .f32) (x1 x2 : Vec Ideal S512x512 .f32) (x3 : Vec Ideal S512x256 .f32) (x4 : Vec Ideal S512x512 .bf16) (x5 x6 x7 : Vec Ideal S1x512 .f32)
    (w1 w2 : Vec Ideal S512x1024 .bf16) (x9 : Vec Ideal S1x1024 .f32) (a0 b0 a1 b1 a2 b2 a3 b3 : Vec Ideal S1024x1024 .bf16)
    (x12 : Vec Ideal S1x1024 .f32) (x13 : Vec Ideal S1024x1024 .bf16) (x14 : Vec Ideal S256x1024 .bf16) (x15 : Vec Ideal S1x1024 .f32)
    (X : FVec Ideal S49152x1024 .f32) (A Y : FVec Ideal S49152x512 .f32) (P : FVec Ideal S49152x256 .f32)
    (Wglu : FVec Ideal S1x512x512 .f32) (Bglu Ga Gs : FVec Ideal S1x512 .f32) (Wout : FVec Ideal S1x1024x1024 .f32) (Gm : FVec Ideal S1x1024 .f32)
    (W1 : FVec Ideal S1x1024x4096 .f32) (W2 : FVec Ideal S1x4096x1024 .f32) (Gp : FVec Ideal S1x1024 .f32)
    (Wg : FVec Ideal S1x1024x1024 .f32) (Wp : FVec Ideal S1x256x1024 .f32) (Gf : FVec Ideal S1024 .f32)
    (h0 : ∀ (r : Fin 512) (k : Fin 1024), x0 (ix2 r k) = X (ix2 (R r) k)) (h1 : ∀ (r k : Fin 512), x1 (ix2 r k) = A (ix2 (R r) k))
    (h2 : ∀ (r k : Fin 512), x2 (ix2 r k) = Y (ix2 (R r) k)) (h3 : ∀ (r : Fin 512) (k : Fin 256), x3 (ix2 r k) = P (ix2 (R r) k))
    (h4 : ∀ (k j : Fin 512), x4 (ix2 k j) = Wglu (ix3 0 k j)) (h5 : ∀ (j : Fin 512), x5 (ix2 0 j) = Bglu (ix2 0 j))
    (h6 : ∀ (j : Fin 512), x6 (ix2 0 j) = Ga (ix2 0 j)) (h7 : ∀ (j : Fin 512), x7 (ix2 0 j) = Gs (ix2 0 j))
    (hw1 : ∀ (k : Fin 512) (j : Fin 1024), w1 (ix2 k j) = Wout (ix3 0 ⟨k, by omega⟩ j))
    (hw2 : ∀ (k : Fin 512) (j : Fin 1024), w2 (ix2 k j) = Wout (ix3 0 ⟨512 + k, by omega⟩ j))
    (h9 : ∀ (j : Fin 1024), x9 (ix2 0 j) = Gm (ix2 0 j))
    (ha0 : ∀ (k j : Fin 1024), a0 (ix2 k j) = W1 (ix3 0 k ⟨0 * 1024 + j, by omega⟩))
    (ha1 : ∀ (k j : Fin 1024), a1 (ix2 k j) = W1 (ix3 0 k ⟨1 * 1024 + j, by omega⟩))
    (ha2 : ∀ (k j : Fin 1024), a2 (ix2 k j) = W1 (ix3 0 k ⟨2 * 1024 + j, by omega⟩))
    (ha3 : ∀ (k j : Fin 1024), a3 (ix2 k j) = W1 (ix3 0 k ⟨3 * 1024 + j, by omega⟩))
    (hb0 : ∀ (k j : Fin 1024), b0 (ix2 k j) = W2 (ix3 0 ⟨0 * 1024 + k, by omega⟩ j))
    (hb1 : ∀ (k j : Fin 1024), b1 (ix2 k j) = W2 (ix3 0 ⟨1 * 1024 + k, by omega⟩ j))
    (hb2 : ∀ (k j : Fin 1024), b2 (ix2 k j) = W2 (ix3 0 ⟨2 * 1024 + k, by omega⟩ j))
    (hb3 : ∀ (k j : Fin 1024), b3 (ix2 k j) = W2 (ix3 0 ⟨3 * 1024 + k, by omega⟩ j))
    (h12 : ∀ (j : Fin 1024), x12 (ix2 0 j) = Gp (ix2 0 j)) (h13 : ∀ (k j : Fin 1024), x13 (ix2 k j) = Wg (ix3 0 k j))
    (h14 : ∀ (k : Fin 256) (j : Fin 1024), x14 (ix2 k j) = Wp (ix3 0 k j)) (h15 : ∀ (j : Fin 1024), x15 (ix2 0 j) = Gf (ix1 j))
    (v69 : FVec Ideal S512x1024 .f32) (v79 : FVec Ideal S512x1 .f32)
    (h69 : v69 = k0_pay5 (k0_pay2 x2 x4 x5) x1 (k0_pay3 x6) (k0_pay4 x1) (Scalar.ofBits .f32 0x358637BD#32) x7 x0 w1 w2)
    (h79 : v79 = k0_pay7 (k0_pay2 x2 x4 x5) x1 (k0_pay3 x6) (k0_pay4 x1) (Scalar.ofBits .f32 0x358637BD#32) x7 x0 w1 w2)
    (y : S512x1024.Idx) (i : Cert.PostRefIdeal.S49152x1024.Idx) (hi : i = ix2 (R (y 0)) (y 1)) :
    k0_pay1 (k0_pay11 v69 (k0_pay8 v69 (k0_pay6 x9) v79) (k0_pay9 v69 (k0_pay6 x9) v79 a0 b0 a1 b1) (k0_pay10 v69 (k0_pay6 x9) v79 a2 b2) a3 b3)
      (k0_pay12 v69 (k0_pay8 v69 (k0_pay6 x9) v79) (k0_pay9 v69 (k0_pay6 x9) v79 a0 b0 a1 b1) (k0_pay10 v69 (k0_pay6 x9) v79 a2 b2) a3 b3 x12 x13) x3 x14 x15 y
    = postRef X A Y P Wglu Bglu Ga Gs Wout Gm W1 W2 Gp Wg Wp Gf i := by
  rw [hi, eq_ix2 y]
  have hmix := mix_eq R _ x1 x0 x6 x7 w1 w2 X A _ Ga Gs Wout h1 (ssm_eq R x2 x4 x5 Y Wglu Bglu h2 h4 h5) h0 h6 h7 hw1 hw2
  have hf := norm_eq R _ _ _ _ _ _ _ _ _ x9 _ Gm hmix h9
  subst h69 h79
  have hmlp := mlp_eq R _ _ _ a0 b0 a1 b1 a2 b2 a3 b3 _ Gm W1 W2 hmix hf ha0 ha1 ha2 ha3 hb0 hb1 hb2 hb3
  exact fin_eq R _ _ x3 x14 x15 _ P Gp Wg Wp Gf hmlp (gate_eq R _ _ _ _ _ _ x12 x13 _ Gp Wg hmlp h12 h13) h3 h14 h15 (y 0) (y 1)

set_option maxHeartbeats 1600000 in
/-- What the body leaves of a tile of rows, from its staged blocks, is the reference on those rows. -/
theorem out_eq (R : Fin 512 → Fin 49152)
    (x0 : Vec Ideal S512x1024 .f32) (x1 x2 : Vec Ideal S512x512 .f32) (x3 : Vec Ideal S512x256 .f32) (x4 : Vec Ideal S512x512 .bf16) (x5 x6 x7 : Vec Ideal S1x512 .f32)
    (x8 : Vec Ideal S1024x1024 .bf16) (x9 : Vec Ideal S1x1024 .f32) (x10 : Vec Ideal S1024x4096 .bf16) (x11 : Vec Ideal S4096x1024 .bf16)
    (x12 : Vec Ideal S1x1024 .f32) (x13 : Vec Ideal S1024x1024 .bf16) (x14 : Vec Ideal S256x1024 .bf16) (x15 : Vec Ideal S1x1024 .f32)
    (X : FVec Ideal S49152x1024 .f32) (A Y : FVec Ideal S49152x512 .f32) (P : FVec Ideal S49152x256 .f32)
    (Wglu : FVec Ideal S1x512x512 .f32) (Bglu Ga Gs : FVec Ideal S1x512 .f32) (Wout : FVec Ideal S1x1024x1024 .f32) (Gm : FVec Ideal S1x1024 .f32)
    (W1 : FVec Ideal S1x1024x4096 .f32) (W2 : FVec Ideal S1x4096x1024 .f32) (Gp : FVec Ideal S1x1024 .f32)
    (Wg : FVec Ideal S1x1024x1024 .f32) (Wp : FVec Ideal S1x256x1024 .f32) (Gf : FVec Ideal S1024 .f32)
    (h0 : ∀ (r : Fin 512) (k : Fin 1024), x0 (ix2 r k) = X (ix2 (R r) k)) (h1 : ∀ (r k : Fin 512), x1 (ix2 r k) = A (ix2 (R r) k))
    (h2 : ∀ (r k : Fin 512), x2 (ix2 r k) = Y (ix2 (R r) k)) (h3 : ∀ (r : Fin 512) (k : Fin 256), x3 (ix2 r k) = P (ix2 (R r) k))
    (h4 : ∀ (k j : Fin 512), x4 (ix2 k j) = Wglu (ix3 0 k j)) (h5 : ∀ (j : Fin 512), x5 (ix2 0 j) = Bglu (ix2 0 j))
    (h6 : ∀ (j : Fin 512), x6 (ix2 0 j) = Ga (ix2 0 j)) (h7 : ∀ (j : Fin 512), x7 (ix2 0 j) = Gs (ix2 0 j))
    (h8 : ∀ (k j : Fin 1024), x8 (ix2 k j) = Wout (ix3 0 k j)) (h9 : ∀ (j : Fin 1024), x9 (ix2 0 j) = Gm (ix2 0 j))
    (h10 : ∀ (k : Fin 1024) (j : Fin 4096), x10 (ix2 k j) = W1 (ix3 0 k j)) (h11 : ∀ (k : Fin 4096) (j : Fin 1024), x11 (ix2 k j) = W2 (ix3 0 k j))
    (h12 : ∀ (j : Fin 1024), x12 (ix2 0 j) = Gp (ix2 0 j)) (h13 : ∀ (k j : Fin 1024), x13 (ix2 k j) = Wg (ix3 0 k j))
    (h14 : ∀ (k : Fin 256) (j : Fin 1024), x14 (ix2 k j) = Wp (ix3 0 k j)) (h15 : ∀ (j : Fin 1024), x15 (ix2 0 j) = Gf (ix1 j))
    (y : S512x1024.Idx) (i : Cert.PostRefIdeal.S49152x1024.Idx) (hi : i = ix2 (R (y 0)) (y 1)) :
    out0_16 x0 x1 x2 x3 x4 x5 x6 x7 x8 x9 x10 x11 x12 x13 x14 x15 y = postRef X A Y P Wglu Bglu Ga Gs Wout Gm W1 W2 Gp Wg Wp Gf i := by
  unfold_out out0_16
  frame_out
  refine tile_eq (R := R) (X := X) (A := A) (Y := Y) (P := P) (Wglu := Wglu) (Bglu := Bglu) (Ga := Ga) (Gs := Gs) (Wout := Wout) (Gm := Gm) (W1 := W1) (W2 := W2)
    (Gp := Gp) (Wg := Wg) (Wp := Wp) (Gf := Gf) (h0 := ?_) (h1 := ?_) (h2 := ?_) (h3 := ?_) (h4 := ?_) (h5 := ?_) (h6 := ?_) (h7 := ?_) (hw1 := ?_) (hw2 := ?_) (h9 := ?_)
    (ha0 := ?_) (ha1 := ?_) (ha2 := ?_) (ha3 := ?_) (hb0 := ?_) (hb1 := ?_) (hb2 := ?_) (hb3 := ?_) (h12 := ?_) (h13 := ?_)
    (h14 := ?_) (h15 := ?_) (v69 := _) (v79 := _) (h69 := rfl) (h79 := rfl) (hi := hi)
  all_goals (intros; pointwise [h0, h1, h2, h3, h4, h5, h6, h7, h8, h9, h10, h11, h12, h13, h14, h15])

/-- The result array after the run. -/
theorem final (c : Dev nD) : (dats m 0 c).arrAt 16 (cfgs 0).N = result m c := by
  refine (dats m 0 c).arrAt_eq_of_covers 16 _ (by decide +kernel) fun t _ y => ?_
  blk_simp
  rw [after0_16]
  refine out_eq (row t) _ _ _ _ _ _ _ _ _ _ _ _ _ _ _ _ _ _ _ _ _ _ _ _ _ _ _ _ _ _ _ _ (b0 m c t) (b1 m c t) (b2 m c t) (b3 m c t) (b4 m c t) (b5 m c t) (b6 m c t) (b7 m c t)
    (b8 m c t) (b9 m c t) (b10 m c t) (b11 m c t) (b12 m c t) (b13 m c t) (b14 m c t) (b15 m c t) y _ ?_
  blk_ext [idx t, row]

end Cert.PostIdeal.Value

end
-- ==== Proof.InProj.Value.lean ====
/- The input projection: the arrays the kernel leaves are the reference's projection, cut into its two results. -/
module

public import proofs.«01_k».proof.Proof.Gen.InProjIdeal.Frame
public import proofs.«01_k».proof.Proof.Gen.InProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjRefIdeal.Value

open Cert.InProjRefIdeal Cert.InProjRefIdeal.Gen

/-- The whole projection, as the reference composes it: the normalised rows times the weight. -/
def projected (X : FVec Ideal S49152x1024 .f32) (g : FVec Ideal S1x1024 .f32) (W : FVec Ideal S1x1024x2048 .f32) : FVec Ideal S49152x2048 .f32 :=
  Host.dotGeneral dot_S49152x1024_S1024x2048_S49152x2048_1_0_0_1_n_n none (mulf (mulf X (broadcastInDim S49152x1024 ![0, 1] bcast_S49152x1_S49152x1024_0_1 (Host.rsqrt (addf (Host.divf (broadcastInDim S49152x1 ![0] bcast_S49152_S49152x1_0 (Host.reduceAdd (mulf X X) (constant S_ .f32 0x00000000#32) reducesTo_S49152x1024_S49152_d1 h_S_)) (broadcastInDim S49152x1 ![] bcast_S_S49152x1 (constant S_ .f32 0x44800000#32))) (broadcastInDim S49152x1 ![] bcast_S_S49152x1 (constant S_ .f32 0x358637BD#32)))))) (broadcastInDim S49152x1024 ![0, 1] bcast_S1x1024_S49152x1024_0_1 (broadcastInDim S1x1024 ![1] bcast_S1024_S1x1024_1 (shapeCast _ g shapeCasts_S1x1024_S1024)))) (shapeCast _ W shapeCasts_S1x1024x2048_S1024x2048)

/-- The first result: the first 1536 columns. -/
def qkvRef (X : FVec Ideal S49152x1024 .f32) (g : FVec Ideal S1x1024 .f32) (W : FVec Ideal S1x1024x2048 .f32) : FVec Ideal S49152x1536 .f32 :=
  extractStridedSlice S49152x1536 ![0, 0] (projected X g W) slices_S49152x2048_S49152x1536_0_0

/-- The second result: the last 512 columns. -/
def uRef (X : FVec Ideal S49152x1024 .f32) (g : FVec Ideal S1x1024 .f32) (W : FVec Ideal S1x1024x2048 .f32) : FVec Ideal S49152x512 .f32 :=
  extractStridedSlice S49152x512 ![0, 1536] (projected X g W) slices_S49152x2048_S49152x512_0_1536

end Cert.InProjRefIdeal.Value

namespace Cert.InProjIdeal.Value

open Cert.InProjIdeal Cert.InProjIdeal.Gen Cert.InProjRefIdeal.Value

variable (m : (ℓ : Loc nD τ sig) → Buf (Elt Ideal) ℓ)

/-- Which block each window takes at a grid point. -/
theorem idx : ∀ t : Fin cfg0.N, win0_0.index t = ![t.val, 0] ∧ win0_1.index t = ![0, 0] ∧ win0_2.index t = ![0, 0] ∧ win0_3.index t = ![t.val, 0] ∧ win0_4.index t = ![t.val, 0] ∧ t.val < 96 :=
  (by decide +kernel : ∀ t : Fin grid0.N, _)

/-- What a point stores in its block of the first result is the reference at the array index. -/
theorem point3 (c : Dev nD) (t : Fin cfg0.N) (y) : k0_pay2 (iblk m c 0 t) (iblk m c 1 t) (iblk m c 2 t) y
    = qkvRef (m ((c : Thread nD τ).loc main_arg0)) (m ((c : Thread nD τ).loc main_arg1)) (m ((c : Thread nD τ).loc main_arg2)) (((cfg0.win 3).blk t).view.emb y) := by
  pointwise [k0_pay2, k0_pay1, qkvRef, projected]
  blk_point [iblk, V, idx t]

/-- What a point stores in its block of the second result is the reference at the array index. -/
theorem point4 (c : Dev nD) (t : Fin cfg0.N) (y) : k0_pay3 (iblk m c 0 t) (iblk m c 1 t) (iblk m c 2 t) y
    = uRef (m ((c : Thread nD τ).loc main_arg0)) (m ((c : Thread nD τ).loc main_arg1)) (m ((c : Thread nD τ).loc main_arg2)) (((cfg0.win 4).blk t).view.emb y) := by
  pointwise [k0_pay3, k0_pay1, uRef, projected]
  blk_point [iblk, V, idx t]

/-- The first result array after the run. -/
theorem final3 (c : Dev nD) : (dats m 0 c).arrAt 3 (cfgs 0).N
    = qkvRef (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point3 m c t y

/-- The second result array after the run. -/
theorem final4 (c : Dev nD) : (dats m 0 c).arrAt 4 (cfgs 0).N
    = uRef (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point4 m c t y

end Cert.InProjIdeal.Value

end
-- ==== Proof.Att.LoopsIdeal.lean ====
/- The three loops of the attention kernel: what each leaves in the two scratch buffers. -/
module

public import proofs.«01_k».proof.Proof.Gen.AttIdeal.Skeleton
public import Idealize.ShloMosaic.Lib.Exec
public import Idealize.ShloMosaic.Lib.ValueIdx
public import Idealize.ShloMosaic.Lib.Tactic
public import Idealize.ShloMosaic.Lib.Pipeline.Kit

@[expose] public section

set_option maxRecDepth 8192
set_option maxHeartbeats 1000000

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open Idealize.ShloMosaic.ValueIdx (ix1 ix2 ix3 ix4)
open scoped Idealize.SL.BI
open Idealize.SL.BI.BIBase Idealize.SL.BI.Laws Idealize.SL.ProofMode Idealize.SL.Sem

variable {F : FTy → Type} [FloatOps F]

local notation "𝕄A" => MT nD τ sig Unit (Elt F) ℕ (UR sig nD τ) ℕ

/-! ## Where a trip stores -/

theorem trips1 : k0_t1_loop.trips = 16 := by decide +kernel
theorem trips2 : k0_t2_loop.trips = 16 := by decide +kernel
theorem trips3 : k0_t3_loop.trips = 16 := by decide +kernel

theorem off1_eq : ∀ k : Fin k0_t1_loop.trips, k0_off1 k = ![128 * k.val, 0] := by decide +kernel
theorem off4_eq : ∀ k : Fin k0_t1_loop.trips, k0_off4 k = ![0, 128 * k.val, 0] := by decide +kernel
theorem off5_eq : ∀ k : Fin k0_t2_loop.trips, k0_off5 k = ![k.val % 4 + 512 * (k.val / 4), 0] := by decide +kernel
theorem off8_eq : ∀ k : Fin k0_t3_loop.trips, k0_off8 k = ![k.val, 0] := by decide +kernel

/-! ## What a trip computes -/

/-- The values a load with a stride takes from the contents `x`. -/
abbrev lds {S : Shape} {e : EltTy} (x : Vec F S e) (r : LoadRect S) : Vec F r.shape e := fun y => x (r.idx y)

section tiles
variable (i : grid0.Coords) (x3 : Vec F S2048x128 .f32) (x4 x5 : Vec F S8192x128 .f32) (x6 : Vec F S1x18x128x256 .f32)

def q1 (k : Fin k0_t1_loop.trips) : Vec F S128x128 .f32 := lds x3 (Rect.unit (s := S2048x128) (k0_off1 k) S128x128.size (k0_off1_inb k)).toLoadRect
def kv1 (x : Vec F S8192x128 .f32) (k : Fin k0_t1_loop.trips) : Vec F S256x128 .f32 := lds x (Rect.unit (s := S8192x128) (k0_off2 i k) S256x128.size (k0_off2_inb i k)).toLoadRect
def b1a (k : Fin k0_t1_loop.trips) : Vec F S1x1x128x256 .f32 := lds x6 (Rect.unit (s := S1x18x128x256) (k0_off3 i k 0#32) S1x1x128x256.size (k0_off3_inb i k 0)).toLoadRect
def b1b (k : Fin k0_t1_loop.trips) : Vec F S1x1x128x256 .f32 := lds x6 (Rect.unit (s := S1x18x128x256) (k0_off3 i k 1#32) S1x1x128x256.size (k0_off3_inb i k 1)).toLoadRect
/-- A trip's output tile of the branch of dilation 1, -/
def o1 (k : Fin k0_t1_loop.trips) : Vec F S1x128x128 .f32 :=
  k0_pay49 (k0_pay3 (kv1 i x4 k)) (k0_pay4 (kv1 i x5 k)) (k0_pay9 k0_pay44 (q1 x3 k) (kv1 i x4 k) (kv1 i x5 k) (b1a i x6 k)) (k0_pay11 k0_pay44 (q1 x3 k)) (b1b i x6 k)
/-- and its tile of logarithms of denominators. -/
def l1 (k : Fin k0_t1_loop.trips) : Vec F S1x128x128 .f32 :=
  k0_pay50 (k0_pay3 (kv1 i x4 k)) (k0_pay10 k0_pay44 (q1 x3 k) (kv1 i x4 k) (b1a i x6 k)) (k0_pay11 k0_pay44 (q1 x3 k)) (b1b i x6 k)

def q2 (k : Fin k0_t2_loop.trips) : Vec F S128x128 .f32 := lds x3 ⟨k0_off5 k, S128x128.size, ![4, 1], k0_off5_inb k⟩
def kv2 (x : Vec F S8192x128 .f32) (k : Fin k0_t2_loop.trips) : Vec F S256x128 .f32 := lds x ⟨k0_off6 i k, S256x128.size, ![4, 1], k0_off6_inb i k⟩
def b2a (k : Fin k0_t2_loop.trips) : Vec F S1x1x128x256 .f32 := lds x6 (Rect.unit (s := S1x18x128x256) (k0_off7 i k 0#32) S1x1x128x256.size (k0_off7_inb i k 0)).toLoadRect
def b2b (k : Fin k0_t2_loop.trips) : Vec F S1x1x128x256 .f32 := lds x6 (Rect.unit (s := S1x18x128x256) (k0_off7 i k 1#32) S1x1x128x256.size (k0_off7_inb i k 1)).toLoadRect
/-- The same of the branch of dilation 4, -/
def o2 (k : Fin k0_t2_loop.trips) : Vec F S128x128 .f32 :=
  k0_pay26 k0_pay44 (k0_pay13 (kv2 i x4 k)) (k0_pay14 (kv2 i x5 k)) (k0_pay19 k0_pay44 (q2 x3 k) (kv2 i x4 k) (kv2 i x5 k) (b2a i x6 k)) (k0_pay21 k0_pay44 (q2 x3 k)) (b2b i x6 k)
def l2 (k : Fin k0_t2_loop.trips) : Vec F S128x128 .f32 :=
  k0_pay27 k0_pay44 (k0_pay13 (kv2 i x4 k)) (k0_pay20 k0_pay44 (q2 x3 k) (kv2 i x4 k) (b2a i x6 k)) (k0_pay21 k0_pay44 (q2 x3 k)) (b2b i x6 k)

def q3 (k : Fin k0_t3_loop.trips) : Vec F S128x128 .f32 := lds x3 ⟨k0_off8 k, S128x128.size, ![16, 1], k0_off8_inb k⟩
def kv3 (x : Vec F S8192x128 .f32) (k : Fin k0_t3_loop.trips) : Vec F S256x128 .f32 := lds x ⟨k0_off9 i k, S256x128.size, ![16, 1], k0_off9_inb i k⟩
def b3a (k : Fin k0_t3_loop.trips) : Vec F S1x1x128x256 .f32 := lds x6 (Rect.unit (s := S1x18x128x256) (k0_off10 i k 0#32) S1x1x128x256.size (k0_off10_inb i k 0)).toLoadRect
def b3b (k : Fin k0_t3_loop.trips) : Vec F S1x1x128x256 .f32 := lds x6 (Rect.unit (s := S1x18x128x256) (k0_off10 i k 1#32) S1x1x128x256.size (k0_off10_inb i k 1)).toLoadRect
/-- and of the branch of dilation 16. -/
def o3 (k : Fin k0_t3_loop.trips) : Vec F S128x128 .f32 :=
  k0_pay42 k0_pay44 (k0_pay29 (kv3 i x4 k)) (k0_pay30 (kv3 i x5 k)) (k0_pay35 k0_pay44 (q3 x3 k) (kv3 i x4 k) (kv3 i x5 k) (b3a i x6 k)) (k0_pay37 k0_pay44 (q3 x3 k)) (b3b i x6 k)
def l3 (k : Fin k0_t3_loop.trips) : Vec F S128x128 .f32 :=
  k0_pay43 k0_pay44 (k0_pay29 (kv3 i x4 k)) (k0_pay36 k0_pay44 (q3 x3 k) (kv3 i x4 k) (b3a i x6 k)) (k0_pay37 k0_pay44 (q3 x3 k)) (b3b i x6 k)
end tiles

/-! ## What the trips before `k` have left in a scratch buffer -/

def At1 (O : Fin k0_t1_loop.trips → Vec F S1x128x128 .f32) (k : ℕ) (g : Vec F S3x2048x128 .f32) : Prop :=
  ∀ j : Fin k0_t1_loop.trips, j.val < k → ∀ (r c : Fin 128) (y : S3x2048x128.Idx),
    (y 0).val = 0 → (y 1).val = 128 * j.val + r.val → (y 2).val = c.val → g y = O j (ix3 0 r c)
def At2 (O : Fin k0_t2_loop.trips → Vec F S128x128 .f32) (k : ℕ) (g : Vec F S3x2048x128 .f32) : Prop :=
  ∀ j : Fin k0_t2_loop.trips, j.val < k → ∀ (r c : Fin 128) (y : S3x2048x128.Idx),
    (y 0).val = 1 → (y 1).val = j.val % 4 + 512 * (j.val / 4) + 4 * r.val → (y 2).val = c.val → g y = O j (ix2 r c)
def At3 (O : Fin k0_t3_loop.trips → Vec F S128x128 .f32) (k : ℕ) (g : Vec F S3x2048x128 .f32) : Prop :=
  ∀ j : Fin k0_t3_loop.trips, j.val < k → ∀ (r c : Fin 128) (y : S3x2048x128.Idx),
    (y 0).val = 2 → (y 1).val = j.val + 16 * r.val → (y 2).val = c.val → g y = O j (ix2 r c)

variable {v : View sig .tc .vmem S3x2048x128 .f32} {f : v.ty.Contents (Elt F)}

theorem at1_zero (O : Fin k0_t1_loop.trips → Vec F S1x128x128 .f32) (g : Vec F S3x2048x128 .f32) : At1 O 0 g := fun _ h => absurd h (Nat.not_lt_zero _)
theorem at2_zero (O : Fin k0_t2_loop.trips → Vec F S128x128 .f32) (g : Vec F S3x2048x128 .f32) : At2 O 0 g := fun _ h => absurd h (Nat.not_lt_zero _)
theorem at3_zero (O : Fin k0_t3_loop.trips → Vec F S128x128 .f32) (g : Vec F S3x2048x128 .f32) : At3 O 0 g := fun _ h => absurd h (Nat.not_lt_zero _)

theorem at1_succ (O : Fin k0_t1_loop.trips → Vec F S1x128x128 .f32) (k : Fin k0_t1_loop.trips) (h : At1 O k.val (v.read (Elt F) f)) :
    At1 O (k.val + 1) (v.read (Elt F) (v.writes (Elt F) f [⟨Rect.unit (s := S3x2048x128) (k0_off4 k) S1x128x128.size (k0_off4_inb k), O k⟩])) := by
  intro j hj r c y h0 h1 h2
  rcases Nat.lt_succ_iff_lt_or_eq.mp hj with hlt | heq
  · rw [View.read_writes_cons_miss_of_axis v f _ _ y 1 (128 * k.val) 128 (congrFun (off4_eq k) 1) rfl rfl (by omega)]
    exact h j hlt r c y h0 h1 h2
  · have : j = k := Fin.ext heq
    subst this
    refine View.read_writes_cons_hit_of_coords v f (Rect.unit (s := S3x2048x128) (k0_off4 j) S1x128x128.size (k0_off4_inb j)) (O j) [] (ix3 (0 : Fin 1) r c) y ?_
    intro a
    have e := congrFun (off4_eq j) a
    fin_cases a
    · show (y 0).val = k0_off4 j 0 + 1 * 0
      rw [show k0_off4 j 0 = 0 from e]; omega
    · show (y 1).val = k0_off4 j 1 + 1 * r.val
      rw [show k0_off4 j 1 = 128 * j.val from e]; omega
    · show (y 2).val = k0_off4 j 2 + 1 * c.val
      rw [show k0_off4 j 2 = 0 from e]; omega

/-! ## The strided stores -/

/-- A store of a box with one row of planes leaves every other plane. -/
theorem plane_miss (R : Rect S3x2048x128) (w : R.shape.Idx → Elt F .f32) (p : ℕ) (ho : R.off 0 = p) (hst : R.stride 0 = 1) (hsz : R.size 0 = 1)
    (y : S3x2048x128.Idx) (hy : (y 0).val ≠ p) :
    v.read (Elt F) (v.writes (Elt F) f [⟨R, w⟩]) y = v.read (Elt F) f y :=
  View.read_writes_cons_miss_of_axis v f ⟨R, w⟩ [] y 0 p 1 ho hst hsz (by omega)

/-- A store of 128 rows at a stride leaves every row between them. -/
theorem row_miss (R : Rect S3x2048x128) (w : R.shape.Idx → Elt F .f32) (o st : ℕ) (ho : R.off 1 = o) (hst : R.stride 1 = st) (hsz : R.size 1 = 128)
    (y : S3x2048x128.Idx) (hy : ∀ j < 128, (y 1).val ≠ o + st * j) :
    v.read (Elt F) (v.writes (Elt F) f [⟨R, w⟩]) y = v.read (Elt F) f y := by
  refine View.read_writes_cons_miss v f ⟨R, w⟩ [] y ?_
  intro hm
  obtain ⟨j, hj, e⟩ := (LoadRect.mem_set _).mp hm 1
  rw [hsz] at hj
  rw [ho, hst] at e
  exact hy j hj e

/-- A store of 128 rows at a stride into one plane, read at one of its places. -/
theorem plane_hit (R : Rect S3x2048x128) (w : R.shape.Idx → Elt F .f32) (p o st : ℕ) (ho : R.off = ![p, o, 0]) (hst : R.stride = ![1, st, 1]) (hsz : R.size = ![1, 128, 128])
    (O : Vec F S128x128 .f32) (hw : ∀ (x : R.shape.Idx) (r c : Fin 128), (x 1).val = r.val → (x 2).val = c.val → w x = O (ix2 r c))
    (y : S3x2048x128.Idx) (r c : Fin 128) (hy0 : (y 0).val = p) (hy1 : (y 1).val = o + st * r.val) (hy2 : (y 2).val = c.val) :
    v.read (Elt F) (v.writes (Elt F) f [⟨R, w⟩]) y = O (ix2 r c) := by
  have hx : ∀ a, (ix3 (0 : Fin 1) r c a).val < R.size a := fun a => by
    have h := (ix3 (0 : Fin 1) r c a).isLt
    rw [hsz]; exact h
  refine (View.read_writes_cons_hit_of_coords v f R w [] (fun a => ⟨(ix3 (0 : Fin 1) r c a).val, hx a⟩) y ?_).trans (hw _ r c rfl rfl)
  intro a
  rw [ho, hst]
  fin_cases a
  · show (y 0).val = p + 1 * 0
    omega
  · exact hy1
  · show (y 2).val = 0 + 1 * c.val
    omega

theorem at1_keep (O : Fin k0_t1_loop.trips → Vec F S1x128x128 .f32) (n : ℕ) (R : Rect S3x2048x128) (w : R.shape.Idx → Elt F .f32) (p : ℕ) (ho : R.off 0 = p) (hp : p ≠ 0) (hst : R.stride 0 = 1) (hsz : R.size 0 = 1)
    (h : At1 O n (v.read (Elt F) f)) : At1 O n (v.read (Elt F) (v.writes (Elt F) f [⟨R, w⟩])) := by
  intro j hj r c y e0 e1 e2
  rw [plane_miss R w p ho hst hsz y (by omega)]
  exact h j hj r c y e0 e1 e2

theorem at2_keep (O : Fin k0_t2_loop.trips → Vec F S128x128 .f32) (n : ℕ) (R : Rect S3x2048x128) (w : R.shape.Idx → Elt F .f32) (p : ℕ) (ho : R.off 0 = p) (hp : p ≠ 1) (hst : R.stride 0 = 1) (hsz : R.size 0 = 1)
    (h : At2 O n (v.read (Elt F) f)) : At2 O n (v.read (Elt F) (v.writes (Elt F) f [⟨R, w⟩])) := by
  intro j hj r c y e0 e1 e2
  rw [plane_miss R w p ho hst hsz y (by omega)]
  exact h j hj r c y e0 e1 e2

theorem at2_succ (O : Fin k0_t2_loop.trips → Vec F S128x128 .f32) (k : Fin k0_t2_loop.trips) (R : Rect S3x2048x128) (w : R.shape.Idx → Elt F .f32)
    (ho : R.off = ![1, k.val % 4 + 512 * (k.val / 4), 0]) (hst : R.stride = ![1, 4, 1]) (hsz : R.size = ![1, 128, 128])
    (hw : ∀ (x : R.shape.Idx) (r c : Fin 128), (x 1).val = r.val → (x 2).val = c.val → w x = O k (ix2 r c))
    (h : At2 O k.val (v.read (Elt F) f)) : At2 O (k.val + 1) (v.read (Elt F) (v.writes (Elt F) f [⟨R, w⟩])) := by
  intro j hj r c y e0 e1 e2
  rcases Nat.lt_succ_iff_lt_or_eq.mp hj with hlt | heq
  · rw [row_miss R w (k.val % 4 + 512 * (k.val / 4)) 4 (congrFun ho 1) (congrFun hst 1) (congrFun hsz 1) y (fun t ht e => by
      have := r.isLt
      omega)]
    exact h j hlt r c y e0 e1 e2
  · have : j = k := Fin.ext heq
    subst this
    exact plane_hit R w _ _ _ ho hst hsz (O j) hw y r c e0 e1 e2

theorem at3_succ (O : Fin k0_t3_loop.trips → Vec F S128x128 .f32) (k : Fin k0_t3_loop.trips) (R : Rect S3x2048x128) (w : R.shape.Idx → Elt F .f32)
    (ho : R.off = ![2, k.val, 0]) (hst : R.stride = ![1, 16, 1]) (hsz : R.size = ![1, 128, 128])
    (hw : ∀ (x : R.shape.Idx) (r c : Fin 128), (x 1).val = r.val → (x 2).val = c.val → w x = O k (ix2 r c))
    (h : At3 O k.val (v.read (Elt F) f)) : At3 O (k.val + 1) (v.read (Elt F) (v.writes (Elt F) f [⟨R, w⟩])) := by
  intro j hj r c y e0 e1 e2
  have hj16 : j.val < 16 := trips3 ▸ j.isLt
  have hk16 : k.val < 16 := trips3 ▸ k.isLt
  rcases Nat.lt_succ_iff_lt_or_eq.mp hj with hlt | heq
  · rw [row_miss R w k.val 16 (congrFun ho 1) (congrFun hst 1) (congrFun hsz 1) y (fun t ht e => by omega)]
    exact h j hlt r c y e0 e1 e2
  · have : j = k := Fin.ext heq
    subst this
    exact plane_hit R w _ _ _ ho hst hsz (O j) hw y r c e0 e1 e2

theorem soff {p : ℕ} {o : Fin 2 → ℕ} {q : ℕ} (ho : o = ![q, 0]) : (fun a => (![p, 0, 0] : Fin 3 → ℕ) a + (Fin.cons 0 o : Fin 3 → ℕ) a) = ![p, q, 0] := by
  subst ho
  funext a
  fin_cases a
  · rfl
  · exact Nat.zero_add q
  · rfl

theorem scons {x y : ℕ} : (Fin.cons 1 ![x, y] : Fin 3 → ℕ) = ![1, x, y] := rfl

/-! ## A whole scratch buffer after the three loops -/

/-- The three planes, each row at the trip that wrote it. -/
def stack (O1 : Fin k0_t1_loop.trips → Vec F S1x128x128 .f32) (O2 : Fin k0_t2_loop.trips → Vec F S128x128 .f32) (O3 : Fin k0_t3_loop.trips → Vec F S128x128 .f32) :
    Vec F S3x2048x128 .f32 := fun y =>
  have h1 : (y 1).val < 2048 := (y 1).isLt
  have h2 : (y 2).val < 128 := (y 2).isLt
  if (y 0).val = 0 then O1 ⟨(y 1).val / 128, by rw [trips1]; omega⟩ (ix3 0 ⟨(y 1).val % 128, by omega⟩ ⟨(y 2).val, h2⟩)
  else if (y 0).val = 1 then O2 ⟨(y 1).val % 4 + 4 * ((y 1).val / 512), by rw [trips2]; omega⟩ (ix2 ⟨(y 1).val % 512 / 4, by omega⟩ ⟨(y 2).val, h2⟩)
  else O3 ⟨(y 1).val % 16, by rw [trips3]; omega⟩ (ix2 ⟨(y 1).val / 16, by omega⟩ ⟨(y 2).val, h2⟩)

theorem eq_stack (O1 : Fin k0_t1_loop.trips → Vec F S1x128x128 .f32) (O2 : Fin k0_t2_loop.trips → Vec F S128x128 .f32) (O3 : Fin k0_t3_loop.trips → Vec F S128x128 .f32)
    (g : Vec F S3x2048x128 .f32) (n1 n2 n3 : ℕ) (e1 : n1 = 16) (e2 : n2 = 16) (e3 : n3 = 16) (h1 : At1 O1 n1 g) (h2 : At2 O2 n2 g) (h3 : At3 O3 n3 g) : g = stack O1 O2 O3 := by
  subst e1 e2 e3
  funext y
  have hy0 : (y 0).val < 3 := (y 0).isLt
  have hy1 : (y 1).val < 2048 := (y 1).isLt
  unfold stack
  split_ifs with c0 c1
  · exact h1 _ (by show (y 1).val / 128 < 16; omega) ⟨(y 1).val % 128, by omega⟩ ⟨(y 2).val, (y 2).isLt⟩ y c0 (by show (y 1).val = 128 * ((y 1).val / 128) + (y 1).val % 128; omega) rfl
  · exact h2 _ (by show (y 1).val % 4 + 4 * ((y 1).val / 512) < 16; omega) ⟨(y 1).val % 512 / 4, by omega⟩ ⟨(y 2).val, (y 2).isLt⟩ y c1
      (by show (y 1).val = ((y 1).val % 4 + 4 * ((y 1).val / 512)) % 4 + 512 * (((y 1).val % 4 + 4 * ((y 1).val / 512)) / 4) + 4 * ((y 1).val % 512 / 4); omega) rfl
  · exact h3 _ (by show (y 1).val % 16 < 16; omega) ⟨(y 1).val / 16, by omega⟩ ⟨(y 2).val, (y 2).isLt⟩ y (by omega) (by show (y 1).val = (y 1).val % 16 + 16 * ((y 1).val / 16); omega) rfl

theorem of_trips {α : Type} {P : ℕ → α → Prop} {n : ℕ} {a : α} (e : n = 16) (h : P n a) : P 16 a := e ▸ h

/-! ## The loops by their invariants -/

/-- What a loop of the body is handed: the four inputs it reads, at their contents, and the two scratch buffers, each at
    contents a predicate holds of. -/
abbrev Held (c : Dev nD) (arg3 : Memref sig .tc .vmem S2048x128 .f32) (arg4 : Memref sig .tc .vmem S8192x128 .f32) (arg5 : Memref sig .tc .vmem S8192x128 .f32) (arg6 : Memref sig .tc .vmem S1x18x128x256 .f32) (arg8 : Memref sig .tc .vmem S3x2048x128 .f32) (arg9 : Memref sig .tc .vmem S3x2048x128 .f32)
    (X3 : BufTy.Contents (Elt F) arg3.view.ty) (X4 : BufTy.Contents (Elt F) arg4.view.ty) (X5 : BufTy.Contents (Elt F) arg5.view.ty) (X6 : BufTy.Contents (Elt F) arg6.view.ty)
    (R8 R9 : Vec F S3x2048x128 .f32 → Prop) : sProp 𝕄A :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, (arg8.view.loc (c : Thread nD τ) ↦[arg8.view.set]{fullShare} f) ∗ ⌜R8 (arg8.view.read (Elt F) f)⌝) ∗ (∃ f, (arg9.view.loc (c : Thread nD τ) ↦[arg9.view.set]{fullShare} f) ∗ ⌜R9 (arg9.view.read (Elt F) f)⌝))

set_option warn.classDefReducibility false in
@[sl_loop] def inv1 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v3 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopInv (M := 𝕄A) Idealize.ShloMosaic.frame (wpE (defs₀ (F := F)) 𝒱 (c : Thread nD τ) bd) E
      k0_t1_loop.lb k0_t1_loop.ub k0_t1_loop.st k0_t1_ok () (k0_t1_body (F := F) i arg3 harg3 arg4 harg4 arg5 harg5 arg6 harg6 arg7 harg7 arg8 harg8 arg9 harg9 v3) where
  inv k _ := Held c arg3 arg4 arg5 arg6 arg8 arg9 X3 X4 X5 X6
    (At1 (o1 i (arg3.view.read (Elt F) X3) (arg4.view.read (Elt F) X4) (arg5.view.read (Elt F) X5) (arg6.view.read (Elt F) X6)) k)
    (At1 (l1 i (arg3.view.read (Elt F) X3) (arg4.view.read (Elt F) X4) (arg6.view.read (Elt F) X6)) k)
  step k acc := by
    have hk : k.val < 16 := trips1 ▸ k.isLt
    unfold k0_t1_body
    iintro ⟨H3, H4, H5, H6, ⟨%f8, H8, %h8⟩, ⟨%f9, H9, %h9⟩⟩
    sl_exec
    sl_step
    isplitl [H3]; · iexact H3
    isplitl [H4]; · iexact H4
    isplitl [H5]; · iexact H5
    isplitl [H6]; · iexact H6
    isplitl [H8]
    · iexists _; isplitl [H8]; · iexact H8
      ipureintro; exact at1_succ _ k h8
    iexists _; isplitl [H9]; · iexact H9
    ipureintro; exact at1_succ _ k h9

set_option sl_exec.squeezeSlice true in
set_option warn.classDefReducibility false in
@[sl_loop] def inv2 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v5 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopInv (M := 𝕄A) Idealize.ShloMosaic.frame (wpE (defs₀ (F := F)) 𝒱 (c : Thread nD τ) bd) E
      k0_t2_loop.lb k0_t2_loop.ub k0_t2_loop.st k0_t2_ok () (k0_t2_body (F := F) i arg3 harg3 arg4 harg4 arg5 harg5 arg6 harg6 arg7 harg7 arg8 harg8 arg9 harg9 v5) where
  inv k _ := Held c arg3 arg4 arg5 arg6 arg8 arg9 X3 X4 X5 X6
    (fun g => At1 (o1 i (arg3.view.read (Elt F) X3) (arg4.view.read (Elt F) X4) (arg5.view.read (Elt F) X5) (arg6.view.read (Elt F) X6)) 16 g
      ∧ At2 (o2 i (arg3.view.read (Elt F) X3) (arg4.view.read (Elt F) X4) (arg5.view.read (Elt F) X5) (arg6.view.read (Elt F) X6)) k g)
    (fun g => At1 (l1 i (arg3.view.read (Elt F) X3) (arg4.view.read (Elt F) X4) (arg6.view.read (Elt F) X6)) 16 g
      ∧ At2 (l2 i (arg3.view.read (Elt F) X3) (arg4.view.read (Elt F) X4) (arg6.view.read (Elt F) X6)) k g)
  step k acc := by
    have hk : k.val < 16 := trips2 ▸ k.isLt
    unfold k0_t2_body
    iintro ⟨H3, H4, H5, H6, ⟨%f8, H8, %h8⟩, ⟨%f9, H9, %h9⟩⟩
    sl_exec
    sl_step
    isplitl [H3]; · iexact H3
    isplitl [H4]; · iexact H4
    isplitl [H5]; · iexact H5
    isplitl [H6]; · iexact H6
    isplitl [H8]
    · iexists _; isplitl [H8]; · iexact H8
      ipureintro; refine ⟨at1_keep _ _ _ _ 1 rfl (by decide) rfl rfl h8.1, at2_succ _ k _ _ (soff (off5_eq k)) scons scons (fun x r c e1 e2 => ?_) h8.2⟩
      refine (Rect.payAlong_consLift _ ![1, 2048, 128] rfl (fun a => by fin_cases a <;> rfl) _ _ x (ix2 r c) (fun a => ?_)).trans ?_
      · fin_cases a; exacts [e1.symm, e2.symm]
      · rfl
    iexists _; isplitl [H9]; · iexact H9
    ipureintro; refine ⟨at1_keep _ _ _ _ 1 rfl (by decide) rfl rfl h9.1, at2_succ _ k _ _ (soff (off5_eq k)) scons scons (fun x r c e1 e2 => ?_) h9.2⟩
    refine (Rect.payAlong_consLift _ ![1, 2048, 128] rfl (fun a => by fin_cases a <;> rfl) _ _ x (ix2 r c) (fun a => ?_)).trans ?_
    · fin_cases a; exacts [e1.symm, e2.symm]
    · rfl

set_option sl_exec.squeezeSlice true in
set_option warn.classDefReducibility false in
@[sl_loop] def inv3 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v7 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopInv (M := 𝕄A) Idealize.ShloMosaic.frame (wpE (defs₀ (F := F)) 𝒱 (c : Thread nD τ) bd) E
      k0_t3_loop.lb k0_t3_loop.ub k0_t3_loop.st k0_t3_ok () (k0_t3_body (F := F) i arg3 harg3 arg4 harg4 arg5 harg5 arg6 harg6 arg7 harg7 arg8 harg8 arg9 harg9 v7) where
  inv k _ := Held c arg3 arg4 arg5 arg6 arg8 arg9 X3 X4 X5 X6
    (fun g => At1 (o1 i (arg3.view.read (Elt F) X3) (arg4.view.read (Elt F) X4) (arg5.view.read (Elt F) X5) (arg6.view.read (Elt F) X6)) 16 g
      ∧ At2 (o2 i (arg3.view.read (Elt F) X3) (arg4.view.read (Elt F) X4) (arg5.view.read (Elt F) X5) (arg6.view.read (Elt F) X6)) 16 g
      ∧ At3 (o3 i (arg3.view.read (Elt F) X3) (arg4.view.read (Elt F) X4) (arg5.view.read (Elt F) X5) (arg6.view.read (Elt F) X6)) k g)
    (fun g => At1 (l1 i (arg3.view.read (Elt F) X3) (arg4.view.read (Elt F) X4) (arg6.view.read (Elt F) X6)) 16 g
      ∧ At2 (l2 i (arg3.view.read (Elt F) X3) (arg4.view.read (Elt F) X4) (arg6.view.read (Elt F) X6)) 16 g
      ∧ At3 (l3 i (arg3.view.read (Elt F) X3) (arg4.view.read (Elt F) X4) (arg6.view.read (Elt F) X6)) k g)
  step k acc := by
    have hk : k.val < 16 := trips3 ▸ k.isLt
    unfold k0_t3_body
    iintro ⟨H3, H4, H5, H6, ⟨%f8, H8, %h8⟩, ⟨%f9, H9, %h9⟩⟩
    sl_exec
    sl_step
    isplitl [H3]; · iexact H3
    isplitl [H4]; · iexact H4
    isplitl [H5]; · iexact H5
    isplitl [H6]; · iexact H6
    isplitl [H8]
    · iexists _; isplitl [H8]; · iexact H8
      ipureintro; refine ⟨at1_keep _ _ _ _ 2 rfl (by decide) rfl rfl h8.1, at2_keep _ _ _ _ 2 rfl (by decide) rfl rfl h8.2.1, at3_succ _ k _ _ (soff (off8_eq k)) scons scons (fun x r c e1 e2 => ?_) h8.2.2⟩
      refine (Rect.payAlong_consLift _ ![1, 2048, 128] rfl (fun a => by fin_cases a <;> rfl) _ _ x (ix2 r c) (fun a => ?_)).trans ?_
      · fin_cases a; exacts [e1.symm, e2.symm]
      · rfl
    iexists _; isplitl [H9]; · iexact H9
    ipureintro; refine ⟨at1_keep _ _ _ _ 2 rfl (by decide) rfl rfl h9.1, at2_keep _ _ _ _ 2 rfl (by decide) rfl rfl h9.2.1, at3_succ _ k _ _ (soff (off8_eq k)) scons scons (fun x r c e1 e2 => ?_) h9.2.2⟩
    refine (Rect.payAlong_consLift _ ![1, 2048, 128] rfl (fun a => by fin_cases a <;> rfl) _ _ x (ix2 r c) (fun a => ?_)).trans ?_
    · fin_cases a; exacts [e1.symm, e2.symm]
    · rfl

/-- What loop 1 hands on. -/
instance exit1 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v3 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopExit (inv1 (F := F) 𝒱 c bd E i arg3 harg3 arg4 harg4 arg5 harg5 arg6 harg6 arg7 harg7 arg8 harg8 arg9 harg9 v3 X3 X4 X5 X6) where
  post _ := Held c arg3 arg4 arg5 arg6 arg8 arg9 X3 X4 X5 X6
    (fun g => At1 (o1 i (arg3.view.read (Elt F) X3) (arg4.view.read (Elt F) X4) (arg5.view.read (Elt F) X5) (arg6.view.read (Elt F) X6)) 16 g
      ∧ At2 (o2 i (arg3.view.read (Elt F) X3) (arg4.view.read (Elt F) X4) (arg5.view.read (Elt F) X5) (arg6.view.read (Elt F) X6)) 0 g)
    (fun g => At1 (l1 i (arg3.view.read (Elt F) X3) (arg4.view.read (Elt F) X4) (arg6.view.read (Elt F) X6)) 16 g
      ∧ At2 (l2 i (arg3.view.read (Elt F) X3) (arg4.view.read (Elt F) X4) (arg6.view.read (Elt F) X6)) 0 g)
  exit _ := by
    unfold inv1; dsimp only
    iintro ⟨H3, H4, H5, H6, ⟨%f8, H8, %h8⟩, ⟨%f9, H9, %h9⟩⟩
    isplitl [H3]; · iexact H3
    isplitl [H4]; · iexact H4
    isplitl [H5]; · iexact H5
    isplitl [H6]; · iexact H6
    isplitl [H8]
    · iexists _; isplitl [H8]; · iexact H8
      ipureintro; exact ⟨of_trips trips1 h8, at2_zero _ _⟩
    iexists _; isplitl [H9]; · iexact H9
    ipureintro; exact ⟨of_trips trips1 h9, at2_zero _ _⟩

/-- What loop 2 hands on. -/
instance exit2 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v5 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopExit (inv2 (F := F) 𝒱 c bd E i arg3 harg3 arg4 harg4 arg5 harg5 arg6 harg6 arg7 harg7 arg8 harg8 arg9 harg9 v5 X3 X4 X5 X6) where
  post _ := Held c arg3 arg4 arg5 arg6 arg8 arg9 X3 X4 X5 X6
    (fun g => At1 (o1 i (arg3.view.read (Elt F) X3) (arg4.view.read (Elt F) X4) (arg5.view.read (Elt F) X5) (arg6.view.read (Elt F) X6)) 16 g
      ∧ At2 (o2 i (arg3.view.read (Elt F) X3) (arg4.view.read (Elt F) X4) (arg5.view.read (Elt F) X5) (arg6.view.read (Elt F) X6)) 16 g
      ∧ At3 (o3 i (arg3.view.read (Elt F) X3) (arg4.view.read (Elt F) X4) (arg5.view.read (Elt F) X5) (arg6.view.read (Elt F) X6)) 0 g)
    (fun g => At1 (l1 i (arg3.view.read (Elt F) X3) (arg4.view.read (Elt F) X4) (arg6.view.read (Elt F) X6)) 16 g
      ∧ At2 (l2 i (arg3.view.read (Elt F) X3) (arg4.view.read (Elt F) X4) (arg6.view.read (Elt F) X6)) 16 g
      ∧ At3 (l3 i (arg3.view.read (Elt F) X3) (arg4.view.read (Elt F) X4) (arg6.view.read (Elt F) X6)) 0 g)
  exit _ := by
    unfold inv2; dsimp only
    iintro ⟨H3, H4, H5, H6, ⟨%f8, H8, %h8⟩, ⟨%f9, H9, %h9⟩⟩
    isplitl [H3]; · iexact H3
    isplitl [H4]; · iexact H4
    isplitl [H5]; · iexact H5
    isplitl [H6]; · iexact H6
    isplitl [H8]
    · iexists _; isplitl [H8]; · iexact H8
      ipureintro; exact ⟨h8.1, of_trips trips2 h8.2, at3_zero _ _⟩
    iexists _; isplitl [H9]; · iexact H9
    ipureintro; exact ⟨h9.1, of_trips trips2 h9.2, at3_zero _ _⟩

/-- What loop 3 hands on. -/
instance exit3 (𝒱 : Variants) (c : Dev nD) (bd : Option 𝒱.V) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole) (v7 : BitVec 32)
    (X3 : BufTy.Contents (Elt F) arg3.view.ty) (X4 : BufTy.Contents (Elt F) arg4.view.ty) (X5 : BufTy.Contents (Elt F) arg5.view.ty) (X6 : BufTy.Contents (Elt F) arg6.view.ty) :
    LoopExit (inv3 (F := F) 𝒱 c bd E i arg3 harg3 arg4 harg4 arg5 harg5 arg6 harg6 arg7 harg7 arg8 harg8 arg9 harg9 v7 X3 X4 X5 X6) where
  post _ := Held c arg3 arg4 arg5 arg6 arg8 arg9 X3 X4 X5 X6
    (fun g => At1 (o1 i (arg3.view.read (Elt F) X3) (arg4.view.read (Elt F) X4) (arg5.view.read (Elt F) X5) (arg6.view.read (Elt F) X6)) 16 g
      ∧ At2 (o2 i (arg3.view.read (Elt F) X3) (arg4.view.read (Elt F) X4) (arg5.view.read (Elt F) X5) (arg6.view.read (Elt F) X6)) 16 g
      ∧ At3 (o3 i (arg3.view.read (Elt F) X3) (arg4.view.read (Elt F) X4) (arg5.view.read (Elt F) X5) (arg6.view.read (Elt F) X6)) 16 g)
    (fun g => At1 (l1 i (arg3.view.read (Elt F) X3) (arg4.view.read (Elt F) X4) (arg6.view.read (Elt F) X6)) 16 g
      ∧ At2 (l2 i (arg3.view.read (Elt F) X3) (arg4.view.read (Elt F) X4) (arg6.view.read (Elt F) X6)) 16 g
      ∧ At3 (l3 i (arg3.view.read (Elt F) X3) (arg4.view.read (Elt F) X4) (arg6.view.read (Elt F) X6)) 16 g)
  exit _ := by
    unfold inv3; dsimp only
    iintro ⟨H3, H4, H5, H6, ⟨%f8, H8, %h8⟩, ⟨%f9, H9, %h9⟩⟩
    isplitl [H3]; · iexact H3
    isplitl [H4]; · iexact H4
    isplitl [H5]; · iexact H5
    isplitl [H6]; · iexact H6
    isplitl [H8]
    · iexists _; isplitl [H8]; · iexact H8
      ipureintro; exact ⟨h8.1, h8.2.1, of_trips trips3 h8.2.2⟩
    iexists _; isplitl [H9]; · iexact H9
    ipureintro; exact ⟨h9.1, h9.2.1, of_trips trips3 h9.2.2⟩

end Cert.AttIdeal.Hand

end
-- ==== Proof.Att.Offsets.lean ====
/- Where the attention kernel's loads of a trip lie. -/
module

public import proofs.«01_k».proof.Proof.Att.LoopsIdeal

@[expose] public section

set_option maxRecDepth 8192

namespace Cert.AttIdeal.Hand

open Cert.AttIdeal Cert.AttIdeal.Gen
open Idealize.ShloMosaic

/-- The grid point of tile `t` of the first sequence and head pair: the loads depend on the tile alone. -/
def tileAt (t : Fin 4) : grid0.Coords := fun
  | ⟨0, _⟩ => (0 : Fin 6)
  | ⟨1, _⟩ => (0 : Fin 4)
  | ⟨2, _⟩ => t

/-- The first key row of a window of 256 whose queries begin at `m`, in a branch of length `L`, -/
def kstart (L m : ℕ) : ℕ := min (m - 64) (L - 256)
/-- and which of the three bias tables it takes. -/
def variant (L m : ℕ) : ℕ := if m < 64 then 0 else if m > L - 192 then 2 else 1

theorem off2_at : ∀ (t : Fin 4) (k : Fin k0_t1_loop.trips), k0_off2 (tileAt t) k = ![kstart 8192 (2048 * t.val + 128 * k.val), 0] := by decide +kernel
theorem off2_eq (i : grid0.Coords) (t : Fin 4) (ht : i 2 = t) (k : Fin k0_t1_loop.trips) : k0_off2 i k = ![kstart 8192 (2048 * t.val + 128 * k.val), 0] := by
  subst ht; exact off2_at _ k

theorem off6_at : ∀ (t : Fin 4) (k : Fin k0_t2_loop.trips), k0_off6 (tileAt t) k = ![k.val % 4 + 4 * kstart 2048 (512 * t.val + 128 * (k.val / 4)), 0] := by decide +kernel
theorem off6_eq (i : grid0.Coords) (t : Fin 4) (ht : i 2 = t) (k : Fin k0_t2_loop.trips) : k0_off6 i k = ![k.val % 4 + 4 * kstart 2048 (512 * t.val + 128 * (k.val / 4)), 0] := by
  subst ht; exact off6_at _ k

theorem off9_at : ∀ (t : Fin 4) (k : Fin k0_t3_loop.trips), k0_off9 (tileAt t) k = ![k.val + 16 * kstart 512 (128 * t.val), 0] := by decide +kernel
theorem off9_eq (i : grid0.Coords) (t : Fin 4) (ht : i 2 = t) (k : Fin k0_t3_loop.trips) : k0_off9 i k = ![k.val + 16 * kstart 512 (128 * t.val), 0] := by
  subst ht; exact off9_at _ k

theorem off3_at : ∀ (t : Fin 4) (k : Fin k0_t1_loop.trips) (r : Fin 2), k0_off3 (tileAt t) k (BitVec.ofNat 32 r.val) = ![0, 2 * variant 8192 (2048 * t.val + 128 * k.val) + r.val, 0, 0] := by decide +kernel
theorem off3_eq (i : grid0.Coords) (t : Fin 4) (ht : i 2 = t) (k : Fin k0_t1_loop.trips) (r : Fin 2) : k0_off3 i k (BitVec.ofNat 32 r.val) = ![0, 2 * variant 8192 (2048 * t.val + 128 * k.val) + r.val, 0, 0] := by
  subst ht; exact off3_at _ k r

theorem off7_at : ∀ (t : Fin 4) (k : Fin k0_t2_loop.trips) (r : Fin 2), k0_off7 (tileAt t) k (BitVec.ofNat 32 r.val) = ![0, 6 + 2 * variant 2048 (512 * t.val + 128 * (k.val / 4)) + r.val, 0, 0] := by decide +kernel
theorem off7_eq (i : grid0.Coords) (t : Fin 4) (ht : i 2 = t) (k : Fin k0_t2_loop.trips) (r : Fin 2) : k0_off7 i k (BitVec.ofNat 32 r.val) = ![0, 6 + 2 * variant 2048 (512 * t.val + 128 * (k.val / 4)) + r.val, 0, 0] := by
  subst ht; exact off7_at _ k r

theorem off10_at : ∀ (t : Fin 4) (k : Fin k0_t3_loop.trips) (r : Fin 2), k0_off10 (tileAt t) k (BitVec.ofNat 32 r.val) = ![0, 12 + 2 * variant 512 (128 * t.val) + r.val, 0, 0] := by decide +kernel
theorem off10_eq (i : grid0.Coords) (t : Fin 4) (ht : i 2 = t) (k : Fin k0_t3_loop.trips) (r : Fin 2) : k0_off10 i k (BitVec.ofNat 32 r.val) = ![0, 12 + 2 * variant 512 (128 * t.val) + r.val, 0, 0] := by
  subst ht; exact off10_at _ k r

end Cert.AttIdeal.Hand
-- ==== Proof.Att.Window.lean ====
/- Softmax over a window of keys, and how several windows are merged, on the extended reals. -/
module

public import Idealize.ShloMosaic.PureOps.Ideal
public import Idealize.ShloMosaic.Lib.Pointwise

@[expose] public section

noncomputable section

open Idealize.ShloMosaic

namespace Cert.AttSpec

/-- The largest score of a window, -/
def top {K : ℕ} (s : Fin K → EReal) : EReal := Finset.fold max ⊥ s Finset.univ
/-- the sum of its exponentials, -/
def mass {K : ℕ} (s : Fin K → EReal) : EReal := ∑ x, Ideal.exp (s x - top s)
/-- the weighted mean of its values, -/
def mean {K : ℕ} (s v : Fin K → EReal) : EReal := Ideal.div (∑ x, Ideal.exp (s x - top s) * v x) (mass s)
/-- and the logarithm of its denominator. -/
def lse {K : ℕ} (s : Fin K → EReal) : EReal := top s + Ideal.log (mass s)

theorem ofBits_negInf : Ideal.ofBits .f32 4286578688#32 = ⊥ := by
  simp [Ideal.ofBits]
  try rfl

theorem coe_sum {K : ℕ} (p : Fin K → ℝ) : ((∑ x, p x : ℝ) : EReal) = ∑ x, (p x : EReal) :=
  map_sum (⟨⟨Real.toEReal, EReal.coe_zero⟩, EReal.coe_add⟩ : ℝ →+ EReal) p Finset.univ

theorem top_eq_sup {K : ℕ} (s : Fin K → EReal) : top s = Finset.univ.sup s := rfl

theorem exp_bot_sub (a : EReal) : Ideal.exp (⊥ - a) = 0 := by
  rw [sub_eq_add_neg, EReal.bot_add]; rfl

/-- Two windows, the first beginning at `a` and the second at `a'`, hold the same unmasked keys. -/
structure Same {K K' : ℕ} (a a' : ℕ) (s : Fin K → EReal) (s' : Fin K' → EReal) : Prop where
  left : ∀ x : Fin K, s x ≠ ⊥ → ∃ y : Fin K', a + x.val = a' + y.val ∧ s' y = s x
  right : ∀ y : Fin K', s' y ≠ ⊥ → ∃ x : Fin K, a + x.val = a' + y.val ∧ s x = s' y

theorem Same.top {K K' a a' : ℕ} {s : Fin K → EReal} {s' : Fin K' → EReal} (h : Same a a' s s') : top s = top s' := by
  rw [top_eq_sup, top_eq_sup]
  refine le_antisymm (Finset.sup_le fun x _ => ?_) (Finset.sup_le fun y _ => ?_)
  · by_cases e : s x = ⊥
    · rw [e]; exact bot_le
    · obtain ⟨y, -, hy⟩ := h.left x e
      rw [← hy]; exact Finset.le_sup (f := s') (Finset.mem_univ y)
  · by_cases e : s' y = ⊥
    · rw [e]; exact bot_le
    · obtain ⟨x, -, hx⟩ := h.right y e
      rw [← hx]; exact Finset.le_sup (f := s) (Finset.mem_univ x)

/-- A sum over a window's unmasked keys does not depend on the window. -/
theorem Same.sum {K K' a a' : ℕ} {s : Fin K → EReal} {s' : Fin K' → EReal} (h : Same a a' s s') (f : Fin K → EReal) (f' : Fin K' → EReal)
    (hf : ∀ x, s x = ⊥ → f x = 0) (hf' : ∀ y, s' y = ⊥ → f' y = 0)
    (he : ∀ x y, a + x.val = a' + y.val → s x ≠ ⊥ → f x = f' y) : ∑ x, f x = ∑ y, f' y := by
  have go : ∀ x, f x ≠ 0 → ∃ y : Fin K', a + x.val = a' + y.val ∧ s' y = s x := fun x hx => h.left x fun e => hx (hf x e)
  refine Finset.sum_bij_ne_zero (fun x _ hx => (go x hx).choose) (fun _ _ _ => Finset.mem_univ _) ?_ ?_ ?_
  · intro x _ hx x' _ hx' e
    have h1 := (go x hx).choose_spec.1
    have h2 := (go x' hx').choose_spec.1
    rw [← e] at h2
    exact Fin.ext (by omega)
  · intro y _ hy
    obtain ⟨x, e, ex⟩ := h.right y fun e => hy (hf' y e)
    have hs : s x ≠ ⊥ := fun e' => hy (hf' y (ex ▸ e'))
    have hx : f x ≠ 0 := by rw [he x y e hs]; exact hy
    refine ⟨x, Finset.mem_univ _, hx, ?_⟩
    have h1 := (go x hx).choose_spec.1
    exact Fin.ext (by omega)
  · intro x _ hx
    exact he x _ (go x hx).choose_spec.1 fun e => hx (hf x e)

theorem Same.mass {K K' a a' : ℕ} {s : Fin K → EReal} {s' : Fin K' → EReal} (h : Same a a' s s')
    (he : ∀ x y, a + x.val = a' + y.val → s x ≠ ⊥ → s x = s' y) : mass s = mass s' :=
  h.sum _ _ (fun x e => by rw [e, exp_bot_sub]) (fun y e => by rw [e, exp_bot_sub]) fun x y e hs => by rw [he x y e hs, h.top]

theorem Same.lse {K K' a a' : ℕ} {s : Fin K → EReal} {s' : Fin K' → EReal} (h : Same a a' s s')
    (he : ∀ x y, a + x.val = a' + y.val → s x ≠ ⊥ → s x = s' y) : lse s = lse s' := by
  unfold AttSpec.lse; rw [h.mass he, h.top]

theorem Same.mean {K K' a a' : ℕ} {s v : Fin K → EReal} {s' v' : Fin K' → EReal} (h : Same a a' s s')
    (he : ∀ x y, a + x.val = a' + y.val → s x ≠ ⊥ → s x = s' y) (hv : ∀ x y, a + x.val = a' + y.val → s x ≠ ⊥ → v x = v' y) :
    mean s v = mean s' v' := by
  unfold AttSpec.mean
  rw [h.mass he]
  congr 1
  exact h.sum _ _ (fun x e => by rw [e, exp_bot_sub, zero_mul]) (fun y e => by rw [e, exp_bot_sub, zero_mul])
    fun x y e hs => by rw [he x y e hs, hv x y e hs, h.top]

/-- A window with finite scores, not all masked, has a finite logarithm of its denominator. -/
theorem lse_real {K : ℕ} (s : Fin K → EReal) (ht : ∀ x, s x ≠ ⊤) (x₀ : Fin K) (h₀ : s x₀ ≠ ⊥) : ∃ r : ℝ, lse s = r := by
  obtain ⟨x₁, -, e₁⟩ := Finset.exists_mem_eq_sup Finset.univ ⟨x₀, Finset.mem_univ _⟩ s
  have hT : top s = s x₁ := e₁
  have hle : ∀ x, s x ≤ top s := fun x => Finset.le_sup (f := s) (Finset.mem_univ x)
  have hb : s x₁ ≠ ⊥ := fun e => h₀ (le_bot_iff.mp (e ▸ hT ▸ hle x₀))
  obtain ⟨t, et⟩ : ∃ t : ℝ, top s = t := ⟨(s x₁).toReal, by rw [hT, EReal.coe_toReal (ht x₁) hb]⟩
  have he : ∀ x, ∃ p : ℝ, Ideal.exp (s x - top s) = p ∧ 0 ≤ p := fun x => by
    by_cases e : s x = ⊥
    · exact ⟨0, by rw [e, exp_bot_sub]; rfl, le_rfl⟩
    · refine ⟨Real.exp ((s x).toReal - t), ?_, (Real.exp_pos _).le⟩
      rw [et]
      conv_lhs => rw [← EReal.coe_toReal (ht x) e]
      rw [← EReal.coe_sub, Ideal.exp_coe]
  choose p hp hp0 using he
  have hm : mass s = ((∑ x, p x : ℝ) : EReal) := by
    unfold mass
    rw [Finset.sum_congr rfl fun x _ => hp x]
    exact (coe_sum _).symm
  have hpos : 0 < ∑ x, p x := by
    refine Finset.sum_pos' (fun x _ => hp0 x) ⟨x₁, Finset.mem_univ _, ?_⟩
    have h1 := hp x₁
    rw [← hT, et, ← EReal.coe_sub, sub_self, Ideal.exp_coe, Real.exp_zero] at h1
    have : p x₁ = 1 := (EReal.coe_eq_coe_iff.mp h1).symm
    rw [this]; exact one_pos
  refine ⟨t + Real.log (∑ x, p x), ?_⟩
  unfold lse
  rw [hm, et, Ideal.log_coe, if_neg (not_le.mpr hpos), EReal.coe_add]

/-- Weighting the means of several windows after dividing by the sum of weights, or before. -/
theorem merge {B : ℕ} (l o : Fin B → EReal) (hl : ∀ b, ∃ r : ℝ, l b = r) (b₀ : Fin B) :
    Ideal.div (∑ b, Ideal.exp (l b - top l) * o b) (∑ b, Ideal.exp (l b - top l))
      = ∑ b, Ideal.div (Ideal.exp (l b - top l)) (∑ b, Ideal.exp (l b - top l)) * o b := by
  choose r hr using hl
  obtain ⟨b₁, -, e₁⟩ := Finset.exists_mem_eq_sup Finset.univ ⟨b₀, Finset.mem_univ _⟩ l
  have hT : top l = r b₁ := Eq.trans e₁ (hr b₁)
  have he : ∀ b, Ideal.exp (l b - top l) = (Real.exp (r b - r b₁) : ℝ) := fun b => by
    rw [hT, hr b, ← EReal.coe_sub, Ideal.exp_coe]
  have hs : ∑ b, Ideal.exp (l b - top l) = ((∑ b, Real.exp (r b - r b₁) : ℝ) : EReal) := by
    rw [Finset.sum_congr rfl fun b _ => he b]
    exact (coe_sum _).symm
  have hpos : 0 < ∑ b, Real.exp (r b - r b₁) := Finset.sum_pos (fun b _ => Real.exp_pos _) ⟨b₀, Finset.mem_univ _⟩
  rw [hs]
  have hd : ∀ x : EReal, Ideal.div x ((∑ b, Real.exp (r b - r b₁) : ℝ) : EReal) = x * (((∑ b, Real.exp (r b - r b₁))⁻¹ : ℝ) : EReal) := fun x => by
    rw [Ideal.div_coe hpos.ne', one_div]
  simp only [hd]
  have hi : (0 : EReal) ≤ (((∑ b, Real.exp (r b - r b₁))⁻¹ : ℝ) : EReal) := EReal.coe_nonneg.mpr (inv_pos.mpr hpos).le
  have key : ∀ S : Finset (Fin B), (∑ b ∈ S, Ideal.exp (l b - top l) * o b) * (((∑ b, Real.exp (r b - r b₁))⁻¹ : ℝ) : EReal)
      = ∑ b ∈ S, Ideal.exp (l b - top l) * (((∑ b, Real.exp (r b - r b₁))⁻¹ : ℝ) : EReal) * o b := fun S => by
    induction S using Finset.cons_induction with
    | empty => simp
    | cons a S ha ih =>
      rw [Finset.sum_cons, Finset.sum_cons, EReal.right_distrib_of_nonneg_of_ne_top hi (EReal.coe_ne_top _), ih]
      congr 1
      ac_rfl
  exact key Finset.univ

end Cert.AttSpec

end
-- ==== Proof.Att.Tile.lean ====
/- What one trip of the attention kernel computes, entry by entry: a softmax over its window of 256 keys. -/
module

public import proofs.«01_k».proof.Proof.Gen.AttIdeal.Skeleton
public import proofs.«01_k».proof.Proof.Att.Window
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AttIdeal.Hand

open Cert.AttIdeal Cert.AttIdeal.Gen Cert.AttSpec

/-- Lanes below 64 belong to the first head of a pair. -/
theorem lane_lo : ∀ l : Fin 128, l.val < 64 → IntOp.cmpi CmpIPredicate.slt (BitVec.ofNat 32 l.val) 64#32 = 1#1 := by decide +kernel
theorem lane_hi : ∀ l : Fin 128, ¬ l.val < 64 → IntOp.cmpi CmpIPredicate.slt (BitVec.ofNat 32 l.val) 64#32 = 0#1 := by decide +kernel

/-- A sum over the first head's lanes, -/
theorem sum_lo (f : Fin 128 → EReal) :
    ∑ l : Fin 128, Scalar.select (IntOp.cmpi CmpIPredicate.slt (BitVec.ofNat 32 l.val) 64#32) (f l) 0 = ∑ e : Fin 64, f ⟨e.val, by omega⟩ := by
  rw [Fin.sum_univ_two_halves 64 64 rfl]
  have h2 : ∀ e : Fin 64, Scalar.select (IntOp.cmpi CmpIPredicate.slt (BitVec.ofNat 32 (64 + e.val)) 64#32) (f ⟨64 + e.val, by omega⟩) 0 = 0 := fun e => by
    rw [lane_hi ⟨64 + e.val, by omega⟩ (by simp)]; rfl
  rw [show (∑ e : Fin 64, Scalar.select (IntOp.cmpi CmpIPredicate.slt (BitVec.ofNat 32 (64 + e.val)) 64#32) (f ⟨64 + e.val, by omega⟩) 0) = 0 from
    Finset.sum_eq_zero fun e _ => h2 e, add_zero]
  refine Finset.sum_congr rfl fun e _ => ?_
  rw [lane_lo ⟨e.val, by omega⟩ e.isLt]; rfl

/-- and over the second's. -/
theorem sum_hi (f : Fin 128 → EReal) :
    ∑ l : Fin 128, Scalar.select (IntOp.xori (IntOp.cmpi CmpIPredicate.slt (BitVec.ofNat 32 l.val) 64#32) 1#1) (f l) 0 = ∑ e : Fin 64, f ⟨64 + e.val, by omega⟩ := by
  rw [Fin.sum_univ_two_halves 64 64 rfl]
  have h1 : ∀ e : Fin 64, Scalar.select (IntOp.xori (IntOp.cmpi CmpIPredicate.slt (BitVec.ofNat 32 e.val) 64#32) 1#1) (f ⟨e.val, by omega⟩) 0 = 0 := fun e => by
    rw [lane_lo ⟨e.val, by omega⟩ e.isLt]; rfl
  rw [show (∑ e : Fin 64, Scalar.select (IntOp.xori (IntOp.cmpi CmpIPredicate.slt (BitVec.ofNat 32 e.val) 64#32) 1#1) (f ⟨e.val, by omega⟩) 0) = 0 from
    Finset.sum_eq_zero fun e _ => h1 e, zero_add]
  refine Finset.sum_congr rfl fun e _ => ?_
  rw [lane_hi ⟨64 + e.val, by omega⟩ (by simp)]; rfl

/-- The score of a query row and a key row of a trip, in the head that lane `c` belongs to. -/
def score (q : Vec Ideal S128x128 .f32) (k : Vec Ideal S256x128 .f32) (ba bb : Vec Ideal S1x1x128x256 .f32) (r c : Fin 128) (x : Fin 256) : EReal :=
  ∑ e : Fin 64, (show EReal from q (ix2 r ⟨64 * (c.val / 64) + e.val, by omega⟩)) * Ideal.ofBits .f32 1040187392#32 * k (ix2 x ⟨64 * (c.val / 64) + e.val, by omega⟩)
    + (if c.val < 64 then ba else bb) (ix4 0 0 r x)

theorem score_lo (q : Vec Ideal S128x128 .f32) (k : Vec Ideal S256x128 .f32) (ba bb : Vec Ideal S1x1x128x256 .f32) (r c : Fin 128) (h : c.val < 64) :
    score q k ba bb r c = fun x => ∑ e : Fin 64, (show EReal from q (ix2 r ⟨e.val, by omega⟩)) * Ideal.ofBits .f32 1040187392#32 * k (ix2 x ⟨e.val, by omega⟩) + ba (ix4 0 0 r x) := by
  funext x
  unfold score
  rw [if_pos h]
  simp only [show c.val / 64 = 0 by omega, mul_zero, zero_add]

theorem score_hi (q : Vec Ideal S128x128 .f32) (k : Vec Ideal S256x128 .f32) (ba bb : Vec Ideal S1x1x128x256 .f32) (r c : Fin 128) (h : ¬ c.val < 64) :
    score q k ba bb r c = fun x => ∑ e : Fin 64, (show EReal from q (ix2 r ⟨64 + e.val, by omega⟩)) * Ideal.ofBits .f32 1040187392#32 * k (ix2 x ⟨64 + e.val, by omega⟩) + bb (ix4 0 0 r x) := by
  funext x
  unfold score
  rw [if_neg h]
  simp only [show c.val / 64 = 1 by omega, mul_one]

/-- A trip of branch 1: the output tile, -/
theorem tile_o1 (q : Vec Ideal S128x128 .f32) (k v : Vec Ideal S256x128 .f32) (ba bb : Vec Ideal S1x1x128x256 .f32) (r c : Fin 128) :
    k0_pay49 (k0_pay3 k) (k0_pay4 v) (k0_pay9 k0_pay44 q k v ba) (k0_pay11 k0_pay44 q) bb (ix3 0 r c) = mean (score q k ba bb r c) (fun x => v (ix2 x c)) := by
  pointwise [k0_pay49, k0_pay48, k0_pay47, k0_pay46, k0_pay45, k0_pay44, k0_pay2, k0_pay3, k0_pay4, k0_pay5, k0_pay6, k0_pay7, k0_pay8, k0_pay9, k0_pay11]
  simp only [sum_lo, sum_hi, ofBits_negInf]
  by_cases h : c.val < 64
  · rw [lane_lo c h, score_lo q k ba bb r c h]; rfl
  · rw [lane_hi c h, score_hi q k ba bb r c h]; rfl
/-- and the tile of logarithms of denominators. -/
theorem tile_l1 (q : Vec Ideal S128x128 .f32) (k : Vec Ideal S256x128 .f32) (ba bb : Vec Ideal S1x1x128x256 .f32) (r c : Fin 128) :
    k0_pay50 (k0_pay3 k) (k0_pay10 k0_pay44 q k ba) (k0_pay11 k0_pay44 q) bb (ix3 0 r c) = lse (score q k ba bb r c) := by
  pointwise [k0_pay50, k0_pay48, k0_pay47, k0_pay46, k0_pay45, k0_pay44, k0_pay2, k0_pay3, k0_pay5, k0_pay6, k0_pay7, k0_pay8, k0_pay10, k0_pay11]
  simp only [sum_lo, sum_hi, ofBits_negInf]
  by_cases h : c.val < 64
  · rw [lane_lo c h, score_lo q k ba bb r c h]; rfl
  · rw [lane_hi c h, score_hi q k ba bb r c h]; rfl

/-- A trip of branch 2: the output tile, -/
theorem tile_o2 (q : Vec Ideal S128x128 .f32) (k v : Vec Ideal S256x128 .f32) (ba bb : Vec Ideal S1x1x128x256 .f32) (r c : Fin 128) :
    k0_pay26 k0_pay44 (k0_pay13 k) (k0_pay14 v) (k0_pay19 k0_pay44 q k v ba) (k0_pay21 k0_pay44 q) bb (ix2 r c) = mean (score q k ba bb r c) (fun x => v (ix2 x c)) := by
  pointwise [k0_pay26, k0_pay25, k0_pay24, k0_pay23, k0_pay22, k0_pay44, k0_pay12, k0_pay13, k0_pay14, k0_pay15, k0_pay16, k0_pay17, k0_pay18, k0_pay19, k0_pay21]
  simp only [sum_lo, sum_hi, ofBits_negInf]
  by_cases h : c.val < 64
  · rw [lane_lo c h, score_lo q k ba bb r c h]; rfl
  · rw [lane_hi c h, score_hi q k ba bb r c h]; rfl
/-- and the tile of logarithms of denominators. -/
theorem tile_l2 (q : Vec Ideal S128x128 .f32) (k : Vec Ideal S256x128 .f32) (ba bb : Vec Ideal S1x1x128x256 .f32) (r c : Fin 128) :
    k0_pay27 k0_pay44 (k0_pay13 k) (k0_pay20 k0_pay44 q k ba) (k0_pay21 k0_pay44 q) bb (ix2 r c) = lse (score q k ba bb r c) := by
  pointwise [k0_pay27, k0_pay25, k0_pay24, k0_pay23, k0_pay22, k0_pay44, k0_pay12, k0_pay13, k0_pay15, k0_pay16, k0_pay17, k0_pay18, k0_pay20, k0_pay21]
  simp only [sum_lo, sum_hi, ofBits_negInf]
  by_cases h : c.val < 64
  · rw [lane_lo c h, score_lo q k ba bb r c h]; rfl
  · rw [lane_hi c h, score_hi q k ba bb r c h]; rfl

/-- A trip of branch 3: the output tile, -/
theorem tile_o3 (q : Vec Ideal S128x128 .f32) (k v : Vec Ideal S256x128 .f32) (ba bb : Vec Ideal S1x1x128x256 .f32) (r c : Fin 128) :
    k0_pay42 k0_pay44 (k0_pay29 k) (k0_pay30 v) (k0_pay35 k0_pay44 q k v ba) (k0_pay37 k0_pay44 q) bb (ix2 r c) = mean (score q k ba bb r c) (fun x => v (ix2 x c)) := by
  pointwise [k0_pay42, k0_pay41, k0_pay40, k0_pay39, k0_pay38, k0_pay44, k0_pay28, k0_pay29, k0_pay30, k0_pay31, k0_pay32, k0_pay33, k0_pay34, k0_pay35, k0_pay37]
  simp only [sum_lo, sum_hi, ofBits_negInf]
  by_cases h : c.val < 64
  · rw [lane_lo c h, score_lo q k ba bb r c h]; rfl
  · rw [lane_hi c h, score_hi q k ba bb r c h]; rfl
/-- and the tile of logarithms of denominators. -/
theorem tile_l3 (q : Vec Ideal S128x128 .f32) (k : Vec Ideal S256x128 .f32) (ba bb : Vec Ideal S1x1x128x256 .f32) (r c : Fin 128) :
    k0_pay43 k0_pay44 (k0_pay29 k) (k0_pay36 k0_pay44 q k ba) (k0_pay37 k0_pay44 q) bb (ix2 r c) = lse (score q k ba bb r c) := by
  pointwise [k0_pay43, k0_pay41, k0_pay40, k0_pay39, k0_pay38, k0_pay44, k0_pay28, k0_pay29, k0_pay31, k0_pay32, k0_pay33, k0_pay34, k0_pay36, k0_pay37]
  simp only [sum_lo, sum_hi, ofBits_negInf]
  by_cases h : c.val < 64
  · rw [lane_lo c h, score_lo q k ba bb r c h]; rfl
  · rw [lane_hi c h, score_hi q k ba bb r c h]; rfl

end Cert.AttIdeal.Hand

end
-- ==== Proof.Att.Spec.lean ====
/- The score of a query and a key of one branch, by their places in the sequence: what a window of keys holds of it. -/
module

public import proofs.«01_k».proof.Proof.Att.Window
public import Idealize.ShloMosaic.Lib.Pipeline.ValueKit

@[expose] public section

noncomputable section

open Idealize.ShloMosaic

namespace Cert.AttSpec

/-- A matrix at a row and column, zero outside. -/
def at2 {m n : ℕ} (X : (⟨2, ![m, n]⟩ : Shape).Idx → EReal) (r c : ℕ) : EReal :=
  if h : r < m ∧ c < n then X (ix2 ⟨r, h.1⟩ ⟨c, h.2⟩) else 0

theorem at2_eq {m n : ℕ} (X : (⟨2, ![m, n]⟩ : Shape).Idx → EReal) (r c : ℕ) (hr : r < m) (hc : c < n) : X (ix2 ⟨r, hr⟩ ⟨c, hc⟩) = at2 X r c := by
  unfold at2; rw [dif_pos ⟨hr, hc⟩]

theorem at2_congr {m n : ℕ} {X : (⟨2, ![m, n]⟩ : Shape).Idx → EReal} {r r' c c' : ℕ} (hr : r = r') (hc : c = c') : at2 X r c = at2 X r' c' := by
  rw [hr, hc]

/-- The product of the query row `r` and the key row `r'` in head `h`. -/
def qk (X : (⟨2, ![49152, 1536]⟩ : Shape).Idx → EReal) (r r' h : ℕ) : EReal :=
  ∑ e : Fin 64, at2 X r (h * 64 + e.val) * at2 X r' (512 + h * 64 + e.val)

/-- The score of the query at place `m` and the key at place `M - 64` of a branch of dilation `d` and length `L` whose rows begin at `base`:
    minus infinity for a key outside the band or the sequence. -/
def cs (X : (⟨2, ![49152, 1536]⟩ : Shape).Idx → EReal) (bi : ℕ → EReal) (L d base h m M : ℕ) : EReal :=
  if (m ≤ M ∧ M ≤ m + 128) ∧ 64 ≤ M ∧ M < L + 64 then
    qk X (base + m * d) (base + (M - 64) * d) h * Ideal.ofBits .f32 1040187392#32 + bi (M + 191 - m)
  else ⊥

/-- The value of the key at place `M - 64`, in column `c`; zero outside the sequence. -/
def cv (X : (⟨2, ![49152, 1536]⟩ : Shape).Idx → EReal) (L d base c M : ℕ) : EReal :=
  if 64 ≤ M ∧ M < L + 64 then at2 X (base + (M - 64) * d) (1024 + c) else 0

theorem cs_ne_bot {X bi L d base h m M} (e : cs X bi L d base h m M ≠ ⊥) : (m ≤ M ∧ M ≤ m + 128) ∧ 64 ≤ M ∧ M < L + 64 := by
  unfold cs at e
  by_contra hn
  rw [if_neg hn] at e
  exact e rfl

/-- Two windows that hold the band of the query at `m` hold the same unmasked keys. -/
theorem same_cs {K K' : ℕ} (X bi) (L d base h m a a' : ℕ) (ha : ∀ M, (m ≤ M ∧ M ≤ m + 128) ∧ 64 ≤ M ∧ M < L + 64 → a ≤ M ∧ M < a + K)
    (ha' : ∀ M, (m ≤ M ∧ M ≤ m + 128) ∧ 64 ≤ M ∧ M < L + 64 → a' ≤ M ∧ M < a' + K') :
    Same a a' (fun x : Fin K => cs X bi L d base h m (a + x.val)) (fun y : Fin K' => cs X bi L d base h m (a' + y.val)) where
  left x e := by
    have h1 := ha' _ (cs_ne_bot e)
    exact ⟨⟨a + x.val - a', by omega⟩, by simp only; omega, by simp only; congr 1; omega⟩
  right y e := by
    have h1 := ha _ (cs_ne_bot e)
    exact ⟨⟨a' + y.val - a, by omega⟩, by simp only; omega, by simp only; congr 1; omega⟩

theorem lse_cs {K K' : ℕ} (X bi) (L d base h m a a' : ℕ) (ha : ∀ M, (m ≤ M ∧ M ≤ m + 128) ∧ 64 ≤ M ∧ M < L + 64 → a ≤ M ∧ M < a + K)
    (ha' : ∀ M, (m ≤ M ∧ M ≤ m + 128) ∧ 64 ≤ M ∧ M < L + 64 → a' ≤ M ∧ M < a' + K') :
    lse (fun x : Fin K => cs X bi L d base h m (a + x.val)) = lse (fun y : Fin K' => cs X bi L d base h m (a' + y.val)) :=
  (same_cs X bi L d base h m a a' ha ha').lse fun x y e _ => by rw [e]

theorem mean_cs {K K' : ℕ} (X bi) (L d base h c m a a' : ℕ) (ha : ∀ M, (m ≤ M ∧ M ≤ m + 128) ∧ 64 ≤ M ∧ M < L + 64 → a ≤ M ∧ M < a + K)
    (ha' : ∀ M, (m ≤ M ∧ M ≤ m + 128) ∧ 64 ≤ M ∧ M < L + 64 → a' ≤ M ∧ M < a' + K') :
    mean (fun x : Fin K => cs X bi L d base h m (a + x.val)) (fun x => cv X L d base c (a + x.val))
      = mean (fun y : Fin K' => cs X bi L d base h m (a' + y.val)) (fun y => cv X L d base c (a' + y.val)) :=
  (same_cs X bi L d base h m a a' ha ha').mean (fun x y e _ => by rw [e]) fun x y e _ => by rw [e]

/-- A number that is neither infinity. -/
abbrev IsReal (x : EReal) : Prop := ∃ r : ℝ, x = r

theorem isReal_at2 {m n : ℕ} {X : (⟨2, ![m, n]⟩ : Shape).Idx → EReal} (r c : ℕ) (h : ∀ (a : Fin m) (b : Fin n), b.val = c → IsReal (X (ix2 a b))) : IsReal (at2 X r c) := by
  unfold at2
  by_cases hh : r < m ∧ c < n
  · rw [dif_pos hh]; exact h _ _ rfl
  · rw [dif_neg hh]; exact ⟨0, EReal.coe_zero.symm⟩

theorem IsReal.mul {x y : EReal} : IsReal x → IsReal y → IsReal (x * y) := fun ⟨a, ha⟩ ⟨b, hb⟩ => ⟨a * b, by rw [ha, hb, EReal.coe_mul]⟩
theorem IsReal.add {x y : EReal} : IsReal x → IsReal y → IsReal (x + y) := fun ⟨a, ha⟩ ⟨b, hb⟩ => ⟨a + b, by rw [ha, hb, EReal.coe_add]⟩
theorem IsReal.sum {K : ℕ} {f : Fin K → EReal} (h : ∀ x, IsReal (f x)) : IsReal (∑ x, f x) := by
  choose r hr using h
  exact ⟨∑ x, r x, by rw [Finset.sum_congr rfl fun x _ => hr x, coe_sum]⟩

theorem scale_eq : Ideal.ofBits .f32 1040187392#32 = ((1 / 8 : ℝ) : EReal) := by
  simp [Ideal.ofBits, Ideal.ieee]
  rw [← EReal.coe_mul]
  norm_num

theorem scale_real : IsReal (Ideal.ofBits .f32 1040187392#32) := ⟨1 / 8, scale_eq⟩

/-- Scaling every product is scaling the sum. -/
theorem sum_scale {K : ℕ} (f : Fin K → EReal) : (∑ x, f x) * Ideal.ofBits .f32 1040187392#32 = ∑ x, f x * Ideal.ofBits .f32 1040187392#32 := by
  have hi : (0 : EReal) ≤ Ideal.ofBits .f32 1040187392#32 := by rw [scale_eq]; exact EReal.coe_nonneg.mpr (by norm_num)
  have ht : Ideal.ofBits .f32 1040187392#32 ≠ ⊤ := by rw [scale_eq]; exact EReal.coe_ne_top _
  have key : ∀ S : Finset (Fin K), (∑ x ∈ S, f x) * Ideal.ofBits .f32 1040187392#32 = ∑ x ∈ S, f x * Ideal.ofBits .f32 1040187392#32 := fun S => by
    induction S using Finset.cons_induction with
    | empty => simp
    | cons a S ha ih => rw [Finset.sum_cons, Finset.sum_cons, EReal.right_distrib_of_nonneg_of_ne_top hi ht, ih]
  exact key Finset.univ

/-- With finite queries, keys and biases the logarithm of a window's denominator is finite: the window holds the query's own key. -/
theorem lse_cs_real {K : ℕ} (X : (⟨2, ![49152, 1536]⟩ : Shape).Idx → EReal) (bi) (L d base h m a : ℕ)
    (hX : ∀ r c, c < 1024 → IsReal (at2 X r c)) (hb : ∀ o, IsReal (bi o)) (hh : h < 8) (hm : m < L)
    (ha : a ≤ m + 64 ∧ m + 64 < a + K) : IsReal (lse (fun x : Fin K => cs X bi L d base h m (a + x.val))) := by
  have hr : ∀ M, (m ≤ M ∧ M ≤ m + 128) ∧ 64 ≤ M ∧ M < L + 64 → IsReal (cs X bi L d base h m M) := fun M hM => by
    unfold cs
    rw [if_pos hM]
    refine (IsReal.mul (IsReal.sum fun e => (hX _ _ ?_).mul (hX _ _ ?_)) scale_real).add (hb _) <;> omega
  refine lse_real _ (fun x => ?_) ⟨m + 64 - a, by omega⟩ ?_
  · by_cases hM : (m ≤ a + x.val ∧ a + x.val ≤ m + 128) ∧ 64 ≤ a + x.val ∧ a + x.val < L + 64
    · obtain ⟨r, e⟩ := hr _ hM
      rw [e]; exact EReal.coe_ne_top _
    · unfold cs; rw [if_neg hM]; exact bot_ne_top
  · have e1 : a + (m + 64 - a) = m + 64 := by omega
    simp only [e1]
    obtain ⟨r, e⟩ := hr (m + 64) (by omega)
    rw [e]; exact EReal.coe_ne_bot _

end Cert.AttSpec

end
-- ==== Proof.Att.Result.lean ====
/- Dilated attention, entry by entry: three branches' windows of keys, and their merge. -/
module

public import proofs.«01_k».proof.Proof.Att.Spec

@[expose] public section

noncomputable section

open Idealize.ShloMosaic

namespace Cert.AttSpec

section
variable (X : (⟨2, ![49152, 1536]⟩ : Shape).Idx → EReal) (bi : Fin 3 → ℕ → ℕ → EReal)

/-- Of the query at place `m`: the logarithm of the denominator over the 192 keys around its block, -/
def lseAt (bi : ℕ → EReal) (L d base h m : ℕ) : EReal := lse (fun j : Fin 192 => cs X bi L d base h m (m / 64 * 64 + j.val))
/-- and the weighted mean of their values in column `c`. -/
def meanAt (bi : ℕ → EReal) (L d base h c m : ℕ) : EReal :=
  mean (fun j : Fin 192 => cs X bi L d base h m (m / 64 * 64 + j.val)) (fun j => cv X L d base c (m / 64 * 64 + j.val))

/-- Branch `b` at position `p` of sequence `s`: dilation 1, 4 or 16. -/
def branchL (b : Fin 3) (s p h : ℕ) : EReal :=
  match b with
  | ⟨0, _⟩ => lseAt X (bi 0 h) 8192 1 (s * 8192) h p
  | ⟨1, _⟩ => lseAt X (bi 1 h) 2048 4 (s * 8192 + p % 4) h (p / 4)
  | ⟨2, _⟩ => lseAt X (bi 2 h) 512 16 (s * 8192 + p % 16) h (p / 16)
def branchO (b : Fin 3) (s p h e : ℕ) : EReal :=
  match b with
  | ⟨0, _⟩ => meanAt X (bi 0 h) 8192 1 (s * 8192) h (h * 64 + e) p
  | ⟨1, _⟩ => meanAt X (bi 1 h) 2048 4 (s * 8192 + p % 4) h (h * 64 + e) (p / 4)
  | ⟨2, _⟩ => meanAt X (bi 2 h) 512 16 (s * 8192 + p % 16) h (h * 64 + e) (p / 16)

/-- The merge: the branches weighted by the softmax of their logarithms. -/
def result (s p h e : ℕ) : EReal :=
  ∑ b : Fin 3, Ideal.div (Ideal.exp (branchL X bi b s p h - top fun b => branchL X bi b s p h))
    (∑ b' : Fin 3, Ideal.exp (branchL X bi b' s p h - top fun b => branchL X bi b s p h)) * branchO X bi b s p h e

/-- With finite queries, keys and biases the logarithms are finite. -/
theorem branchL_real (hX : ∀ r c, c < 1024 → IsReal (at2 X r c)) (hb : ∀ b h o, IsReal (bi b h o)) (b : Fin 3) (s p h : ℕ) (hh : h < 8) (hp : p < 8192) :
    IsReal (branchL X bi b s p h) := by
  match b with
  | ⟨0, _⟩ => exact lse_cs_real X _ _ _ _ _ _ _ hX (hb _ _) hh hp (by omega)
  | ⟨1, _⟩ => exact lse_cs_real X _ _ _ _ _ _ _ hX (hb _ _) hh (by omega) (by omega)
  | ⟨2, _⟩ => exact lse_cs_real X _ _ _ _ _ _ _ hX (hb _ _) hh (by omega) (by omega)

end

end Cert.AttSpec

end
-- ==== Proof.Att.Loads.lean ====
/- What a trip of the attention kernel loads, entry by entry. -/
module

public import proofs.«01_k».proof.Proof.Att.Offsets
public import proofs.«01_k».proof.Proof.Att.Tile
public import proofs.«01_k».proof.Proof.Att.Result

@[expose] public section

set_option maxRecDepth 8192

noncomputable section

namespace Cert.AttIdeal.Hand

open Cert.AttIdeal Cert.AttIdeal.Gen Cert.AttSpec
open Idealize.ShloMosaic

/-- An index of two axes by its coordinates. -/
theorem eq_ix2 {n0 n1 : ℕ} (y : (⟨2, ![n0, n1]⟩ : Shape).Idx) (a : Fin n0) (b : Fin n1) (h0 : (y 0).val = a.val) (h1 : (y 1).val = b.val) : y = ix2 a b := by
  funext x; apply Fin.ext
  match x with
  | ⟨0, _⟩ => exact h0
  | ⟨1, _⟩ => exact h1

theorem eq_ix4 {n0 n1 n2 n3 : ℕ} (y : (⟨4, ![n0, n1, n2, n3]⟩ : Shape).Idx) (a : Fin n0) (b : Fin n1) (c : Fin n2) (d : Fin n3)
    (h0 : (y 0).val = a.val) (h1 : (y 1).val = b.val) (h2 : (y 2).val = c.val) (h3 : (y 3).val = d.val) : y = ix4 a b c d := by
  funext x; apply Fin.ext
  match x with
  | ⟨0, _⟩ => exact h0
  | ⟨1, _⟩ => exact h1
  | ⟨2, _⟩ => exact h2
  | ⟨3, _⟩ => exact h3

section
variable (i : grid0.Coords) (t : Fin 4) (ht : i 2 = t) (x3 : Vec Ideal S2048x128 .f32) (x4 x5 : Vec Ideal S8192x128 .f32) (x6 : Vec Ideal S1x18x128x256 .f32)

theorem q1_at (k : Fin k0_t1_loop.trips) (r l : Fin 128) (R : Fin 2048) (hR : R.val = 128 * k.val + r.val) : q1 x3 k (ix2 r l) = x3 (ix2 R l) := by
  unfold q1
  refine congrArg x3 (eq_ix2 _ _ _ ?_ ?_)
  · show k0_off1 k 0 + 1 * r.val = _
    rw [off1_eq, hR, one_mul]; rfl
  · show k0_off1 k 1 + 1 * l.val = _
    rw [off1_eq, one_mul]; exact Nat.zero_add _

theorem q2_at (k : Fin k0_t2_loop.trips) (r l : Fin 128) (R : Fin 2048) (hR : R.val = k.val % 4 + 512 * (k.val / 4) + 4 * r.val) : q2 x3 k (ix2 r l) = x3 (ix2 R l) := by
  unfold q2
  refine congrArg x3 (eq_ix2 _ _ _ ?_ ?_)
  · show k0_off5 k 0 + 4 * r.val = _
    rw [off5_eq, hR]; rfl
  · show k0_off5 k 1 + 1 * l.val = _
    rw [off5_eq, one_mul]; exact Nat.zero_add _

theorem q3_at (k : Fin k0_t3_loop.trips) (r l : Fin 128) (R : Fin 2048) (hR : R.val = k.val + 16 * r.val) : q3 x3 k (ix2 r l) = x3 (ix2 R l) := by
  unfold q3
  refine congrArg x3 (eq_ix2 _ _ _ ?_ ?_)
  · show k0_off8 k 0 + 16 * r.val = _
    rw [off8_eq, hR]; rfl
  · show k0_off8 k 1 + 1 * l.val = _
    rw [off8_eq, one_mul]; exact Nat.zero_add _

include ht

theorem kv1_at (x : Vec Ideal S8192x128 .f32) (k : Fin k0_t1_loop.trips) (j : Fin 256) (l : Fin 128) (R : Fin 8192) (hR : R.val = kstart 8192 (2048 * t.val + 128 * k.val) + j.val) :
    kv1 i x k (ix2 j l) = x (ix2 R l) := by
  unfold kv1
  refine congrArg x (eq_ix2 _ _ _ ?_ ?_)
  · show k0_off2 i k 0 + 1 * j.val = _
    rw [off2_eq i t ht, hR, one_mul]; rfl
  · show k0_off2 i k 1 + 1 * l.val = _
    rw [off2_eq i t ht, one_mul]; exact Nat.zero_add _

theorem kv2_at (x : Vec Ideal S8192x128 .f32) (k : Fin k0_t2_loop.trips) (j : Fin 256) (l : Fin 128) (R : Fin 8192) (hR : R.val = k.val % 4 + 4 * kstart 2048 (512 * t.val + 128 * (k.val / 4)) + 4 * j.val) :
    kv2 i x k (ix2 j l) = x (ix2 R l) := by
  unfold kv2
  refine congrArg x (eq_ix2 _ _ _ ?_ ?_)
  · show k0_off6 i k 0 + 4 * j.val = _
    rw [off6_eq i t ht, hR]; rfl
  · show k0_off6 i k 1 + 1 * l.val = _
    rw [off6_eq i t ht, one_mul]; exact Nat.zero_add _

theorem kv3_at (x : Vec Ideal S8192x128 .f32) (k : Fin k0_t3_loop.trips) (j : Fin 256) (l : Fin 128) (R : Fin 8192) (hR : R.val = k.val + 16 * kstart 512 (128 * t.val) + 16 * j.val) :
    kv3 i x k (ix2 j l) = x (ix2 R l) := by
  unfold kv3
  refine congrArg x (eq_ix2 _ _ _ ?_ ?_)
  · show k0_off9 i k 0 + 16 * j.val = _
    rw [off9_eq i t ht, hR]; rfl
  · show k0_off9 i k 1 + 1 * l.val = _
    rw [off9_eq i t ht, one_mul]; exact Nat.zero_add _

theorem b1_at (k : Fin k0_t1_loop.trips) (r c : Fin 128) (j : Fin 256) (P : Fin 18) (hP : P.val = 2 * variant 8192 (2048 * t.val + 128 * k.val) + c.val / 64) :
    (if c.val < 64 then b1a i x6 k else b1b i x6 k) (ix4 0 0 r j) = x6 (ix4 0 P r j) := by
  by_cases hc : c.val < 64
  · rw [if_pos hc]
    unfold b1a
    have e := off3_eq i t ht k 0
    refine congrArg x6 (eq_ix4 _ _ _ _ _ ?_ ?_ ?_ ?_)
    · show k0_off3 i k (BitVec.ofNat 32 (0 : Fin 2).val) 0 + 1 * 0 = 0
      rw [e]; rfl
    · show k0_off3 i k (BitVec.ofNat 32 (0 : Fin 2).val) 1 + 1 * 0 = _
      rw [e, hP, show c.val / 64 = 0 by omega]; rfl
    · show k0_off3 i k (BitVec.ofNat 32 (0 : Fin 2).val) 2 + 1 * r.val = _
      rw [e, one_mul]; exact Nat.zero_add _
    · show k0_off3 i k (BitVec.ofNat 32 (0 : Fin 2).val) 3 + 1 * j.val = _
      rw [e, one_mul]; exact Nat.zero_add _
  · rw [if_neg hc]
    unfold b1b
    have e := off3_eq i t ht k 1
    refine congrArg x6 (eq_ix4 _ _ _ _ _ ?_ ?_ ?_ ?_)
    · show k0_off3 i k (BitVec.ofNat 32 (1 : Fin 2).val) 0 + 1 * 0 = 0
      rw [e]; rfl
    · show k0_off3 i k (BitVec.ofNat 32 (1 : Fin 2).val) 1 + 1 * 0 = _
      rw [e, hP, show c.val / 64 = 1 by omega]; rfl
    · show k0_off3 i k (BitVec.ofNat 32 (1 : Fin 2).val) 2 + 1 * r.val = _
      rw [e, one_mul]; exact Nat.zero_add _
    · show k0_off3 i k (BitVec.ofNat 32 (1 : Fin 2).val) 3 + 1 * j.val = _
      rw [e, one_mul]; exact Nat.zero_add _

theorem b2_at (k : Fin k0_t2_loop.trips) (r c : Fin 128) (j : Fin 256) (P : Fin 18) (hP : P.val = 6 + 2 * variant 2048 (512 * t.val + 128 * (k.val / 4)) + c.val / 64) :
    (if c.val < 64 then b2a i x6 k else b2b i x6 k) (ix4 0 0 r j) = x6 (ix4 0 P r j) := by
  by_cases hc : c.val < 64
  · rw [if_pos hc]
    unfold b2a
    have e := off7_eq i t ht k 0
    refine congrArg x6 (eq_ix4 _ _ _ _ _ ?_ ?_ ?_ ?_)
    · show k0_off7 i k (BitVec.ofNat 32 (0 : Fin 2).val) 0 + 1 * 0 = 0
      rw [e]; rfl
    · show k0_off7 i k (BitVec.ofNat 32 (0 : Fin 2).val) 1 + 1 * 0 = _
      rw [e, hP, show c.val / 64 = 0 by omega]; rfl
    · show k0_off7 i k (BitVec.ofNat 32 (0 : Fin 2).val) 2 + 1 * r.val = _
      rw [e, one_mul]; exact Nat.zero_add _
    · show k0_off7 i k (BitVec.ofNat 32 (0 : Fin 2).val) 3 + 1 * j.val = _
      rw [e, one_mul]; exact Nat.zero_add _
  · rw [if_neg hc]
    unfold b2b
    have e := off7_eq i t ht k 1
    refine congrArg x6 (eq_ix4 _ _ _ _ _ ?_ ?_ ?_ ?_)
    · show k0_off7 i k (BitVec.ofNat 32 (1 : Fin 2).val) 0 + 1 * 0 = 0
      rw [e]; rfl
    · show k0_off7 i k (BitVec.ofNat 32 (1 : Fin 2).val) 1 + 1 * 0 = _
      rw [e, hP, show c.val / 64 = 1 by omega]; rfl
    · show k0_off7 i k (BitVec.ofNat 32 (1 : Fin 2).val) 2 + 1 * r.val = _
      rw [e, one_mul]; exact Nat.zero_add _
    · show k0_off7 i k (BitVec.ofNat 32 (1 : Fin 2).val) 3 + 1 * j.val = _
      rw [e, one_mul]; exact Nat.zero_add _

theorem b3_at (k : Fin k0_t3_loop.trips) (r c : Fin 128) (j : Fin 256) (P : Fin 18) (hP : P.val = 12 + 2 * variant 512 (128 * t.val) + c.val / 64) :
    (if c.val < 64 then b3a i x6 k else b3b i x6 k) (ix4 0 0 r j) = x6 (ix4 0 P r j) := by
  by_cases hc : c.val < 64
  · rw [if_pos hc]
    unfold b3a
    have e := off10_eq i t ht k 0
    refine congrArg x6 (eq_ix4 _ _ _ _ _ ?_ ?_ ?_ ?_)
    · show k0_off10 i k (BitVec.ofNat 32 (0 : Fin 2).val) 0 + 1 * 0 = 0
      rw [e]; rfl
    · show k0_off10 i k (BitVec.ofNat 32 (0 : Fin 2).val) 1 + 1 * 0 = _
      rw [e, hP, show c.val / 64 = 0 by omega]; rfl
    · show k0_off10 i k (BitVec.ofNat 32 (0 : Fin 2).val) 2 + 1 * r.val = _
      rw [e, one_mul]; exact Nat.zero_add _
    · show k0_off10 i k (BitVec.ofNat 32 (0 : Fin 2).val) 3 + 1 * j.val = _
      rw [e, one_mul]; exact Nat.zero_add _
  · rw [if_neg hc]
    unfold b3b
    have e := off10_eq i t ht k 1
    refine congrArg x6 (eq_ix4 _ _ _ _ _ ?_ ?_ ?_ ?_)
    · show k0_off10 i k (BitVec.ofNat 32 (1 : Fin 2).val) 0 + 1 * 0 = 0
      rw [e]; rfl
    · show k0_off10 i k (BitVec.ofNat 32 (1 : Fin 2).val) 1 + 1 * 0 = _
      rw [e, hP, show c.val / 64 = 1 by omega]; rfl
    · show k0_off10 i k (BitVec.ofNat 32 (1 : Fin 2).val) 2 + 1 * r.val = _
      rw [e, one_mul]; exact Nat.zero_add _
    · show k0_off10 i k (BitVec.ofNat 32 (1 : Fin 2).val) 3 + 1 * j.val = _
      rw [e, one_mul]; exact Nat.zero_add _

end

end Cert.AttIdeal.Hand

end
-- ==== Proof.Att.BodyIdeal.lean ====
/- One grid point of the attention kernel: what the body leaves in the output's buffer. -/
module

public import proofs.«01_k».proof.Proof.Att.LoopsIdeal
public import proofs.«01_k».proof.Proof.Gen.AttIdeal.Launch
public import proofs.«01_k».proof.Proof.Gen.AttIdeal.Points
public import Idealize.ShloMosaic.Lib.Pipeline.Frame
public import Idealize.ShloMosaic.Lib.Pipeline.FrameBody

@[expose] public section

set_option maxRecDepth 8192
set_option maxHeartbeats 1000000

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄A" => MT nD τ sig Unit (Elt F) ℕ (UR sig nD τ) ℕ

section
variable (i : grid0.Coords) (x3 : Vec F S2048x128 .f32) (x4 x5 : Vec F S8192x128 .f32) (x6 : Vec F S1x18x128x256 .f32)

/-- The three branches' attention values, a plane each. -/
def outs : Vec F S3x2048x128 .f32 := stack (o1 i x3 x4 x5 x6) (o2 i x3 x4 x5 x6) (o3 i x3 x4 x5 x6)

/-- The three branches' logarithms of the sums, a plane each. -/
def lses : Vec F S3x2048x128 .f32 := stack (l1 i x3 x4 x6) (l2 i x3 x4 x6) (l3 i x3 x4 x6)

/-- Plane `p` of the values. -/
def plane0 (x : Vec F S3x2048x128 .f32) : Vec F S1x2048x128 .f32 := View.ld x (Rect.unit (s := S3x2048x128) ![0, 0, 0] S1x2048x128.size inb_S3x2048x128_S1x2048x128_0_0_0)
def plane1 (x : Vec F S3x2048x128 .f32) : Vec F S1x2048x128 .f32 := View.ld x (Rect.unit (s := S3x2048x128) ![1, 0, 0] S1x2048x128.size inb_S3x2048x128_S1x2048x128_1_0_0)
def plane2 (x : Vec F S3x2048x128 .f32) : Vec F S1x2048x128 .f32 := View.ld x (Rect.unit (s := S3x2048x128) ![2, 0, 0] S1x2048x128.size inb_S3x2048x128_S1x2048x128_2_0_0)
def planes (x : Vec F S3x2048x128 .f32) : Vec F S3x2048x128 .f32 := View.ld x (Rect.unit (s := S3x2048x128) ![0, 0, 0] S3x2048x128.size inb_S3x2048x128_S3x2048x128_0_0_0)

/-- The merge of three branches from the two scratch buffers. -/
def merge (p8 p9 : Vec F S3x2048x128 .f32) : Vec F S2048x128 .f32 :=
  k0_pay1 (planes p9) (k0_pay51 (planes p9)) (k0_pay53 (planes p9) (plane0 p8)) (k0_pay54 (planes p9)) (k0_pay55 (planes p9)) (plane1 p8) (plane2 p8)

/-- What the body leaves in the output's buffer. -/
def out4 : Vec F S2048x128 .f32 :=
  View.canon [⟨Rect.unit (s := S2048x128) ![0, 0] S2048x128.size inb_S2048x128_S2048x128_0_0, merge (outs i x3 x4 x5 x6) (lses i x3 x4 x6)⟩]

end

theorem cover4 (p0 : Vec F S2048x128 .f32) (y : S2048x128.Idx) :
    ∃ pc ∈ ([⟨Rect.unit (s := S2048x128) ![0, 0] S2048x128.size inb_S2048x128_S2048x128_0_0, p0⟩] : List (View.Piece (Elt F) S2048x128 .f32)), y ∈ pc.1.set :=
  View.cover_of_tiled [⟨Rect.unit (s := S2048x128) ![0, 0] S2048x128.size inb_S2048x128_S2048x128_0_0, p0⟩] S2048x128.size (by rfl) y

/-- The body at a point, the inputs' buffers at `x3 … x6`. -/
theorem sound_kernel (c : Dev nD) (E : Set ℕ) (i : grid0.Coords) (arg3 : Memref sig .tc .vmem S2048x128 .f32) (harg3 : arg3.IsWhole) (arg4 : Memref sig .tc .vmem S8192x128 .f32) (harg4 : arg4.IsWhole) (arg5 : Memref sig .tc .vmem S8192x128 .f32) (harg5 : arg5.IsWhole) (arg6 : Memref sig .tc .vmem S1x18x128x256 .f32) (harg6 : arg6.IsWhole) (arg7 : Memref sig .tc .vmem S2048x128 .f32) (harg7 : arg7.IsWhole) (arg8 : Memref sig .tc .vmem S3x2048x128 .f32) (harg8 : arg8.IsWhole) (arg9 : Memref sig .tc .vmem S3x2048x128 .f32) (harg9 : arg9.IsWhole)
    (x3 : Vec F S2048x128 .f32) (x4 x5 : Vec F S8192x128 .f32) (x6 : Vec F S1x18x128x256 .f32) (K : PUnit → sProp 𝕄A) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out4 i x3 x4 x5 x6) ∗ (∃ d, owns (c : Thread nD τ) arg8 fullShare d) ∗ (∃ d, owns (c : Thread nD τ) arg9 fullShare d)) -∗ K ⟨⟩))
      ⊢ wp frame (wpE (defs₀ (F := F)) Variants.none c none) E (cc0_dilated_attention i arg3 harg3 arg4 harg4 arg5 harg5 arg6 harg6 arg7 harg7 arg8 harg8 arg9 harg9) K := by
  simp only [cc0_dilated_attention_eq_skeleton]; unfold cc0_dilated_attention_skel
  unfold owns
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf3 hf4 hf5 hf6
  have a8 : At1 (o1 i (arg3.view.read (Elt F) f3) (arg4.view.read (Elt F) f4) (arg5.view.read (Elt F) f5) (arg6.view.read (Elt F) f6)) 0 (arg8.view.read (Elt F) f8) := at1_zero _ _
  have a9 : At1 (l1 i (arg3.view.read (Elt F) f3) (arg4.view.read (Elt F) f4) (arg6.view.read (Elt F) f6)) 0 (arg9.view.read (Elt F) f9) := at1_zero _ _
  sl_exec
  sl_step
  have e8 : arg8.view.read (Elt F) fL4 = outs i (arg3.view.read (Elt F) f3) (arg4.view.read (Elt F) f4) (arg5.view.read (Elt F) f5) (arg6.view.read (Elt F) f6) :=
    eq_stack _ _ _ _ 16 16 16 rfl rfl rfl hL21.1 hL21.2.1 hL21.2.2
  have e9 : arg9.view.read (Elt F) fL5 = lses i (arg3.view.read (Elt F) f3) (arg4.view.read (Elt F) f4) (arg6.view.read (Elt F) f6) :=
    eq_stack _ _ _ _ 16 16 16 rfl rfl rfl hL23.1 hL23.2.1 hL23.2.2
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover4 _)).trans ?_
    unfold out4
    rw [← e8, ← e9]
    rfl
  isplitl [H8]
  · iexists _; iexists _; isplitr
    swap; · iexact H8
    ipureintro; rfl
  iexists _; iexists _; isplitr
  swap; · iexact H9
  ipureintro; rfl

end Cert.AttIdeal.Hand

end
-- ==== Proof.Att.Branches.lean ====
/- A trip of the attention kernel computes a branch's softmax: its window of 256 keys holds the band of each of its queries. -/
module

public import proofs.«01_k».proof.Proof.Att.Loads
public import proofs.«01_k».proof.Proof.Att.BodyIdeal

@[expose] public section

set_option maxRecDepth 8192

noncomputable section

namespace Cert.AttIdeal.Hand

open Cert.AttIdeal Cert.AttIdeal.Gen Cert.AttSpec
open Idealize.ShloMosaic

section trip
variable (q : Vec Ideal S128x128 .f32) (k v : Vec Ideal S256x128 .f32) (ba bb : Vec Ideal S1x1x128x256 .f32) (r c : Fin 128)
variable (X : S49152x1536.Idx → EReal) (bi : ℕ → EReal) (L d base h m0 : ℕ)
variable (hL : 384 ≤ L ∧ L % 128 = 0) (hm : m0 % 128 = 0 ∧ m0 + 128 ≤ L)
variable (hq : ∀ e : Fin 64, (show EReal from q (ix2 r ⟨64 * (c.val / 64) + e.val, by omega⟩)) = at2 X (base + (m0 + r.val) * d) (h * 64 + e.val))
variable (hk : ∀ (j : Fin 256) (e : Fin 64), (show EReal from k (ix2 j ⟨64 * (c.val / 64) + e.val, by omega⟩)) = at2 X (base + (kstart L m0 + j.val) * d) (512 + h * 64 + e.val))
variable (hb : ∀ j : Fin 256, (show EReal from (if c.val < 64 then ba else bb) (ix4 0 0 r j))
  = if r.val + 64 * variant L m0 ≤ j.val + 64 ∧ j.val ≤ r.val + 64 * variant L m0 + 64 then bi (j.val + 255 - (r.val + 64 * variant L m0)) else ⊥)

include hL hm in
theorem kstart_variant : m0 = kstart L m0 + 64 * variant L m0 ∧ kstart L m0 + 256 ≤ L := by
  unfold kstart variant
  by_cases h1 : m0 < 64
  · rw [if_pos h1]; omega
  · rw [if_neg h1]
    by_cases h2 : m0 > L - 192
    · rw [if_pos h2]; omega
    · rw [if_neg h2]; omega

include hL hm hq hk hb in
theorem score_cs : score q k ba bb r c = fun j => cs X bi L d base h (m0 + r.val) (kstart L m0 + 64 + j.val) := by
  obtain ⟨e1, e2⟩ := kstart_variant L m0 hL hm
  funext j
  unfold score
  refine (Ideal.add_congr (Finset.sum_congr rfl fun e _ => Ideal.mul_congr (Ideal.mul_congr (hq e) rfl) (hk j e)) (hb j)).trans ?_
  generalize kstart L m0 = a at e1 e2 ⊢
  generalize variant L m0 = w at e1 ⊢
  unfold cs
  by_cases hc : r.val + 64 * w ≤ j.val + 64 ∧ j.val ≤ r.val + 64 * w + 64
  · rw [if_pos hc, if_pos (by omega)]
    refine Ideal.add_congr ?_ (congrArg bi (by omega))
    unfold qk
    rw [sum_scale, show a + 64 + j.val - 64 = a + j.val by omega]
    exact Finset.sum_congr rfl fun e _ => mul_right_comm _ _ _
  · rw [if_neg hc, if_neg (by omega)]
    exact EReal.add_bot _

include hL hm in
theorem window_band (M : ℕ) (hM : (m0 + r.val ≤ M ∧ M ≤ m0 + r.val + 128) ∧ 64 ≤ M ∧ M < L + 64) : kstart L m0 + 64 ≤ M ∧ M < kstart L m0 + 64 + 256 := by
  unfold kstart
  omega

include hL hm hq hk hb in
theorem trip_lse : lse (score q k ba bb r c) = lseAt X bi L d base h (m0 + r.val) := by
  rw [score_cs q k ba bb r c X bi L d base h m0 hL hm hq hk hb]
  exact lse_cs X bi L d base h (m0 + r.val) _ _ (window_band r L m0 hL hm) fun M hM => by omega

variable (cc : ℕ) (hv : ∀ j : Fin 256, (show EReal from v (ix2 j c)) = at2 X (base + (kstart L m0 + j.val) * d) (1024 + cc))

include hL hm hq hk hb hv in
theorem trip_mean : mean (score q k ba bb r c) (fun x => v (ix2 x c)) = meanAt X bi L d base h cc (m0 + r.val) := by
  rw [score_cs q k ba bb r c X bi L d base h m0 hL hm hq hk hb]
  obtain ⟨e1, e2⟩ := kstart_variant L m0 hL hm
  have e : (fun x => v (ix2 x c)) = fun x : Fin 256 => cv X L d base cc (kstart L m0 + 64 + x.val) := funext fun x => by
    refine (hv x).trans ?_
    unfold cv
    rw [if_pos (by omega)]
    refine at2_congr ?_ rfl
    rw [show kstart L m0 + 64 + x.val - 64 = kstart L m0 + x.val by omega]
  rw [e]
  exact mean_cs X bi L d base h cc (m0 + r.val) _ _ (window_band r L m0 hL hm) fun M hM => by omega

end trip

section planes
variable (i : grid0.Coords) (t : Fin 4) (ht : i 2 = t) (x3 : Vec Ideal S2048x128 .f32) (x4 x5 : Vec Ideal S8192x128 .f32) (x6 : Vec Ideal S1x18x128x256 .f32)
variable (X : S49152x1536.Idx → EReal) (bi : Fin 3 → ℕ → ℕ → EReal) (s hp : ℕ)

/-- The entry of the host's table: the bias of the plane's branch and head at the offset of the key, minus infinity outside the band. -/
def entry (P r j : ℕ) (b : Fin 3) : EReal :=
  if r + 64 * (P / 2 % 3) ≤ j + 64 ∧ j ≤ r + 64 * (P / 2 % 3) + 64 then bi b (hp * 2 + P % 2) (j + 255 - (r + 64 * (P / 2 % 3))) else ⊥

variable (h3 : ∀ (R : Fin 2048) (l : Fin 128), (show EReal from x3 (ix2 R l)) = at2 X (s * 8192 + 2048 * t.val + R.val) (hp * 128 + l.val))
variable (h4 : ∀ (R : Fin 8192) (l : Fin 128), (show EReal from x4 (ix2 R l)) = at2 X (s * 8192 + R.val) (512 + hp * 128 + l.val))
variable (h5 : ∀ (R : Fin 8192) (l : Fin 128), (show EReal from x5 (ix2 R l)) = at2 X (s * 8192 + R.val) (1024 + hp * 128 + l.val))
variable (h6 : ∀ (P : Fin 18) (r : Fin 128) (j : Fin 256) (b : Fin 3), P.val / 6 = b.val → (show EReal from x6 (ix4 0 P r j)) = entry bi hp P.val r.val j.val b)

theorem variant_lt (L m : ℕ) : variant L m < 3 := by
  unfold variant
  by_cases h1 : m < 64
  · rw [if_pos h1]; omega
  · rw [if_neg h1]
    by_cases h2 : m > L - 192
    · rw [if_pos h2]; omega
    · rw [if_neg h2]; omega

include ht h3 h4 h6 in
theorem lse1 (y : Fin 2048) (c : Fin 128) (k : Fin k0_t1_loop.trips) (r : Fin 128) (ek : k.val = y.val / 128) (er : r.val = y.val % 128) :
    l1 i x3 x4 x6 k (ix3 0 r c) = branchL X bi 0 s (2048 * t.val + y.val) (hp * 2 + c.val / 64) := by
  have ht4 : t.val < 4 := t.isLt
  unfold l1
  refine (tile_l1 _ _ _ _ r c).trans ?_
  refine (trip_lse (q1 x3 k) (kv1 i x4 k) (b1a i x6 k) (b1b i x6 k) r c X (bi 0 (hp * 2 + c.val / 64)) 8192 1 (s * 8192) (hp * 2 + c.val / 64) (2048 * t.val + 128 * k.val) ?_ ?_ ?_ ?_ ?_).trans ?_
  · omega
  · omega
  · intro e
    refine (q1_at x3 k r _ ⟨128 * k.val + r.val, by omega⟩ rfl).trans ((h3 _ _).trans ?_)
    refine at2_congr ?_ ?_ <;> (try dsimp only) <;> omega
  · intro j e
    have hk := (kstart_variant 8192 (2048 * t.val + 128 * k.val) (by omega) (by omega)).2
    refine (kv1_at i t ht x4 k j _ ⟨kstart 8192 (2048 * t.val + 128 * k.val) + j.val, by omega⟩ rfl).trans ((h4 _ _).trans ?_)
    refine at2_congr ?_ ?_ <;> (try dsimp only) <;> omega
  · intro j
    have hw := variant_lt 8192 (2048 * t.val + 128 * k.val)
    refine (b1_at i t ht x6 k r c j ⟨2 * variant 8192 (2048 * t.val + 128 * k.val) + c.val / 64, by omega⟩ rfl).trans ((h6 _ _ _ 0 (by dsimp only; omega)).trans ?_)
    unfold entry
    dsimp only
    rw [show (2 * variant 8192 (2048 * t.val + 128 * k.val) + c.val / 64) / 2 % 3 = variant 8192 (2048 * t.val + 128 * k.val) by omega, show (2 * variant 8192 (2048 * t.val + 128 * k.val) + c.val / 64) % 2 = c.val / 64 by omega]
  · unfold branchL
    exact congrArg₂ (fun a b => lseAt X (bi 0 (hp * 2 + c.val / 64)) 8192 1 a (hp * 2 + c.val / 64) b) (by omega) (by omega)

include ht h3 h4 h5 h6 in
theorem out1 (y : Fin 2048) (c : Fin 128) (k : Fin k0_t1_loop.trips) (r : Fin 128) (ek : k.val = y.val / 128) (er : r.val = y.val % 128) :
    o1 i x3 x4 x5 x6 k (ix3 0 r c) = branchO X bi 0 s (2048 * t.val + y.val) (hp * 2 + c.val / 64) (c.val % 64) := by
  have ht4 : t.val < 4 := t.isLt
  unfold o1
  refine (tile_o1 _ _ _ _ _ r c).trans ?_
  refine (trip_mean (q1 x3 k) (kv1 i x4 k) (kv1 i x5 k) (b1a i x6 k) (b1b i x6 k) r c X (bi 0 (hp * 2 + c.val / 64)) 8192 1 (s * 8192) (hp * 2 + c.val / 64) (2048 * t.val + 128 * k.val) ?_ ?_ ?_ ?_ ?_ ((hp * 2 + c.val / 64) * 64 + c.val % 64) ?_).trans ?_
  · omega
  · omega
  · intro e
    refine (q1_at x3 k r _ ⟨128 * k.val + r.val, by omega⟩ rfl).trans ((h3 _ _).trans ?_)
    refine at2_congr ?_ ?_ <;> (try dsimp only) <;> omega
  · intro j e
    have hk := (kstart_variant 8192 (2048 * t.val + 128 * k.val) (by omega) (by omega)).2
    refine (kv1_at i t ht x4 k j _ ⟨kstart 8192 (2048 * t.val + 128 * k.val) + j.val, by omega⟩ rfl).trans ((h4 _ _).trans ?_)
    refine at2_congr ?_ ?_ <;> (try dsimp only) <;> omega
  · intro j
    have hw := variant_lt 8192 (2048 * t.val + 128 * k.val)
    refine (b1_at i t ht x6 k r c j ⟨2 * variant 8192 (2048 * t.val + 128 * k.val) + c.val / 64, by omega⟩ rfl).trans ((h6 _ _ _ 0 (by dsimp only; omega)).trans ?_)
    unfold entry
    dsimp only
    rw [show (2 * variant 8192 (2048 * t.val + 128 * k.val) + c.val / 64) / 2 % 3 = variant 8192 (2048 * t.val + 128 * k.val) by omega, show (2 * variant 8192 (2048 * t.val + 128 * k.val) + c.val / 64) % 2 = c.val / 64 by omega]
  · intro j
    have hk := (kstart_variant 8192 (2048 * t.val + 128 * k.val) (by omega) (by omega)).2
    refine (kv1_at i t ht x5 k j c ⟨kstart 8192 (2048 * t.val + 128 * k.val) + j.val, by omega⟩ rfl).trans ((h5 _ _).trans ?_)
    refine at2_congr ?_ ?_ <;> (try dsimp only) <;> omega
  · unfold branchO
    exact congrArg₂ (fun a b => meanAt X (bi 0 (hp * 2 + c.val / 64)) 8192 1 a (hp * 2 + c.val / 64) ((hp * 2 + c.val / 64) * 64 + c.val % 64) b) (by omega) (by omega)

include ht h3 h4 h6 in
theorem lse2 (y : Fin 2048) (c : Fin 128) (k : Fin k0_t2_loop.trips) (r : Fin 128) (ek : k.val = y.val % 4 + 4 * (y.val / 512)) (er : r.val = y.val % 512 / 4) :
    l2 i x3 x4 x6 k (ix2 r c) = branchL X bi 1 s (2048 * t.val + y.val) (hp * 2 + c.val / 64) := by
  have ht4 : t.val < 4 := t.isLt
  unfold l2
  refine (tile_l2 _ _ _ _ r c).trans ?_
  refine (trip_lse (q2 x3 k) (kv2 i x4 k) (b2a i x6 k) (b2b i x6 k) r c X (bi 1 (hp * 2 + c.val / 64)) 2048 4 (s * 8192 + k.val % 4) (hp * 2 + c.val / 64) (512 * t.val + 128 * (k.val / 4)) ?_ ?_ ?_ ?_ ?_).trans ?_
  · omega
  · omega
  · intro e
    refine (q2_at x3 k r _ ⟨k.val % 4 + 512 * (k.val / 4) + 4 * r.val, by omega⟩ rfl).trans ((h3 _ _).trans ?_)
    refine at2_congr ?_ ?_ <;> (try dsimp only) <;> omega
  · intro j e
    have hk := (kstart_variant 2048 (512 * t.val + 128 * (k.val / 4)) (by omega) (by omega)).2
    refine (kv2_at i t ht x4 k j _ ⟨k.val % 4 + 4 * kstart 2048 (512 * t.val + 128 * (k.val / 4)) + 4 * j.val, by omega⟩ rfl).trans ((h4 _ _).trans ?_)
    refine at2_congr ?_ ?_ <;> (try dsimp only) <;> omega
  · intro j
    have hw := variant_lt 2048 (512 * t.val + 128 * (k.val / 4))
    refine (b2_at i t ht x6 k r c j ⟨6 + 2 * variant 2048 (512 * t.val + 128 * (k.val / 4)) + c.val / 64, by omega⟩ rfl).trans ((h6 _ _ _ 1 (by dsimp only; omega)).trans ?_)
    unfold entry
    dsimp only
    rw [show (6 + 2 * variant 2048 (512 * t.val + 128 * (k.val / 4)) + c.val / 64) / 2 % 3 = variant 2048 (512 * t.val + 128 * (k.val / 4)) by omega, show (6 + 2 * variant 2048 (512 * t.val + 128 * (k.val / 4)) + c.val / 64) % 2 = c.val / 64 by omega]
  · unfold branchL
    exact congrArg₂ (fun a b => lseAt X (bi 1 (hp * 2 + c.val / 64)) 2048 4 a (hp * 2 + c.val / 64) b) (by omega) (by omega)

include ht h3 h4 h5 h6 in
theorem out2 (y : Fin 2048) (c : Fin 128) (k : Fin k0_t2_loop.trips) (r : Fin 128) (ek : k.val = y.val % 4 + 4 * (y.val / 512)) (er : r.val = y.val % 512 / 4) :
    o2 i x3 x4 x5 x6 k (ix2 r c) = branchO X bi 1 s (2048 * t.val + y.val) (hp * 2 + c.val / 64) (c.val % 64) := by
  have ht4 : t.val < 4 := t.isLt
  unfold o2
  refine (tile_o2 _ _ _ _ _ r c).trans ?_
  refine (trip_mean (q2 x3 k) (kv2 i x4 k) (kv2 i x5 k) (b2a i x6 k) (b2b i x6 k) r c X (bi 1 (hp * 2 + c.val / 64)) 2048 4 (s * 8192 + k.val % 4) (hp * 2 + c.val / 64) (512 * t.val + 128 * (k.val / 4)) ?_ ?_ ?_ ?_ ?_ ((hp * 2 + c.val / 64) * 64 + c.val % 64) ?_).trans ?_
  · omega
  · omega
  · intro e
    refine (q2_at x3 k r _ ⟨k.val % 4 + 512 * (k.val / 4) + 4 * r.val, by omega⟩ rfl).trans ((h3 _ _).trans ?_)
    refine at2_congr ?_ ?_ <;> (try dsimp only) <;> omega
  · intro j e
    have hk := (kstart_variant 2048 (512 * t.val + 128 * (k.val / 4)) (by omega) (by omega)).2
    refine (kv2_at i t ht x4 k j _ ⟨k.val % 4 + 4 * kstart 2048 (512 * t.val + 128 * (k.val / 4)) + 4 * j.val, by omega⟩ rfl).trans ((h4 _ _).trans ?_)
    refine at2_congr ?_ ?_ <;> (try dsimp only) <;> omega
  · intro j
    have hw := variant_lt 2048 (512 * t.val + 128 * (k.val / 4))
    refine (b2_at i t ht x6 k r c j ⟨6 + 2 * variant 2048 (512 * t.val + 128 * (k.val / 4)) + c.val / 64, by omega⟩ rfl).trans ((h6 _ _ _ 1 (by dsimp only; omega)).trans ?_)
    unfold entry
    dsimp only
    rw [show (6 + 2 * variant 2048 (512 * t.val + 128 * (k.val / 4)) + c.val / 64) / 2 % 3 = variant 2048 (512 * t.val + 128 * (k.val / 4)) by omega, show (6 + 2 * variant 2048 (512 * t.val + 128 * (k.val / 4)) + c.val / 64) % 2 = c.val / 64 by omega]
  · intro j
    have hk := (kstart_variant 2048 (512 * t.val + 128 * (k.val / 4)) (by omega) (by omega)).2
    refine (kv2_at i t ht x5 k j c ⟨k.val % 4 + 4 * kstart 2048 (512 * t.val + 128 * (k.val / 4)) + 4 * j.val, by omega⟩ rfl).trans ((h5 _ _).trans ?_)
    refine at2_congr ?_ ?_ <;> (try dsimp only) <;> omega
  · unfold branchO
    exact congrArg₂ (fun a b => meanAt X (bi 1 (hp * 2 + c.val / 64)) 2048 4 a (hp * 2 + c.val / 64) ((hp * 2 + c.val / 64) * 64 + c.val % 64) b) (by omega) (by omega)

include ht h3 h4 h6 in
theorem lse3 (y : Fin 2048) (c : Fin 128) (k : Fin k0_t3_loop.trips) (r : Fin 128) (ek : k.val = y.val % 16) (er : r.val = y.val / 16) :
    l3 i x3 x4 x6 k (ix2 r c) = branchL X bi 2 s (2048 * t.val + y.val) (hp * 2 + c.val / 64) := by
  have ht4 : t.val < 4 := t.isLt
  unfold l3
  refine (tile_l3 _ _ _ _ r c).trans ?_
  refine (trip_lse (q3 x3 k) (kv3 i x4 k) (b3a i x6 k) (b3b i x6 k) r c X (bi 2 (hp * 2 + c.val / 64)) 512 16 (s * 8192 + k.val) (hp * 2 + c.val / 64) (128 * t.val) ?_ ?_ ?_ ?_ ?_).trans ?_
  · omega
  · omega
  · intro e
    refine (q3_at x3 k r _ ⟨k.val + 16 * r.val, by omega⟩ rfl).trans ((h3 _ _).trans ?_)
    refine at2_congr ?_ ?_ <;> (try dsimp only) <;> omega
  · intro j e
    have hk := (kstart_variant 512 (128 * t.val) (by omega) (by omega)).2
    refine (kv3_at i t ht x4 k j _ ⟨k.val + 16 * kstart 512 (128 * t.val) + 16 * j.val, by omega⟩ rfl).trans ((h4 _ _).trans ?_)
    refine at2_congr ?_ ?_ <;> (try dsimp only) <;> omega
  · intro j
    have hw := variant_lt 512 (128 * t.val)
    refine (b3_at i t ht x6 k r c j ⟨12 + 2 * variant 512 (128 * t.val) + c.val / 64, by omega⟩ rfl).trans ((h6 _ _ _ 2 (by dsimp only; omega)).trans ?_)
    unfold entry
    dsimp only
    rw [show (12 + 2 * variant 512 (128 * t.val) + c.val / 64) / 2 % 3 = variant 512 (128 * t.val) by omega, show (12 + 2 * variant 512 (128 * t.val) + c.val / 64) % 2 = c.val / 64 by omega]
  · unfold branchL
    exact congrArg₂ (fun a b => lseAt X (bi 2 (hp * 2 + c.val / 64)) 512 16 a (hp * 2 + c.val / 64) b) (by omega) (by omega)

include ht h3 h4 h5 h6 in
theorem out3 (y : Fin 2048) (c : Fin 128) (k : Fin k0_t3_loop.trips) (r : Fin 128) (ek : k.val = y.val % 16) (er : r.val = y.val / 16) :
    o3 i x3 x4 x5 x6 k (ix2 r c) = branchO X bi 2 s (2048 * t.val + y.val) (hp * 2 + c.val / 64) (c.val % 64) := by
  have ht4 : t.val < 4 := t.isLt
  unfold o3
  refine (tile_o3 _ _ _ _ _ r c).trans ?_
  refine (trip_mean (q3 x3 k) (kv3 i x4 k) (kv3 i x5 k) (b3a i x6 k) (b3b i x6 k) r c X (bi 2 (hp * 2 + c.val / 64)) 512 16 (s * 8192 + k.val) (hp * 2 + c.val / 64) (128 * t.val) ?_ ?_ ?_ ?_ ?_ ((hp * 2 + c.val / 64) * 64 + c.val % 64) ?_).trans ?_
  · omega
  · omega
  · intro e
    refine (q3_at x3 k r _ ⟨k.val + 16 * r.val, by omega⟩ rfl).trans ((h3 _ _).trans ?_)
    refine at2_congr ?_ ?_ <;> (try dsimp only) <;> omega
  · intro j e
    have hk := (kstart_variant 512 (128 * t.val) (by omega) (by omega)).2
    refine (kv3_at i t ht x4 k j _ ⟨k.val + 16 * kstart 512 (128 * t.val) + 16 * j.val, by omega⟩ rfl).trans ((h4 _ _).trans ?_)
    refine at2_congr ?_ ?_ <;> (try dsimp only) <;> omega
  · intro j
    have hw := variant_lt 512 (128 * t.val)
    refine (b3_at i t ht x6 k r c j ⟨12 + 2 * variant 512 (128 * t.val) + c.val / 64, by omega⟩ rfl).trans ((h6 _ _ _ 2 (by dsimp only; omega)).trans ?_)
    unfold entry
    dsimp only
    rw [show (12 + 2 * variant 512 (128 * t.val) + c.val / 64) / 2 % 3 = variant 512 (128 * t.val) by omega, show (12 + 2 * variant 512 (128 * t.val) + c.val / 64) % 2 = c.val / 64 by omega]
  · intro j
    have hk := (kstart_variant 512 (128 * t.val) (by omega) (by omega)).2
    refine (kv3_at i t ht x5 k j c ⟨k.val + 16 * kstart 512 (128 * t.val) + 16 * j.val, by omega⟩ rfl).trans ((h5 _ _).trans ?_)
    refine at2_congr ?_ ?_ <;> (try dsimp only) <;> omega
  · unfold branchO
    exact congrArg₂ (fun a b => meanAt X (bi 2 (hp * 2 + c.val / 64)) 512 16 a (hp * 2 + c.val / 64) ((hp * 2 + c.val / 64) * 64 + c.val % 64) b) (by omega) (by omega)

end planes

end Cert.AttIdeal.Hand

end
-- ==== Proof.Att.Merge.lean ====
/- The attention kernel's body, entry by entry: the merge of its three branches. -/
module

public import proofs.«01_k».proof.Proof.Att.Branches

@[expose] public section

set_option maxRecDepth 8192
set_option maxHeartbeats 1000000

noncomputable section

namespace Cert.AttIdeal.Hand

open Cert.AttIdeal Cert.AttIdeal.Gen Cert.AttSpec
open Idealize.ShloMosaic

theorem plane0_at (x : Vec Ideal S3x2048x128 .f32) (y : Fin 2048) (c : Fin 128) : plane0 x (ix3 0 y c) = x (ix3 0 y c) := by
  unfold plane0
  pointwise []
theorem plane1_at (x : Vec Ideal S3x2048x128 .f32) (y : Fin 2048) (c : Fin 128) : plane1 x (ix3 0 y c) = x (ix3 1 y c) := by
  unfold plane1
  pointwise []
theorem plane2_at (x : Vec Ideal S3x2048x128 .f32) (y : Fin 2048) (c : Fin 128) : plane2 x (ix3 0 y c) = x (ix3 2 y c) := by
  unfold plane2
  pointwise []
theorem planes_at (x : Vec Ideal S3x2048x128 .f32) (b : Fin 3) (y : Fin 2048) (c : Fin 128) : planes x (ix3 b y c) = x (ix3 b y c) := by
  unfold planes
  pointwise []

theorem merge_at (p8 p9 : Vec Ideal S3x2048x128 .f32) (y : Fin 2048) (c : Fin 128) (hl : ∀ b : Fin 3, IsReal (p9 (ix3 b y c))) :
    merge p8 p9 (ix2 y c) = ∑ b : Fin 3, Ideal.div (Ideal.exp ((show EReal from p9 (ix3 b y c)) - top fun b : Fin 3 => p9 (ix3 b y c)))
      (∑ b' : Fin 3, Ideal.exp ((show EReal from p9 (ix3 b' y c)) - top fun b : Fin 3 => p9 (ix3 b y c))) * p8 (ix3 b y c) := by
  unfold merge
  pointwise [k0_pay1, k0_pay51, k0_pay52, k0_pay53, k0_pay54, k0_pay55]
  simp only [plane0_at, plane1_at, plane2_at, planes_at, ofBits_negInf]
  refine Eq.trans ?_ (Cert.AttSpec.merge (fun b : Fin 3 => p9 (ix3 b y c)) (fun b : Fin 3 => p8 (ix3 b y c)) hl 0)
  rw [Fin.sum_univ_three, Fin.sum_univ_three]
  rfl

section
variable (i : grid0.Coords) (t : Fin 4) (ht : i 2 = t) (x3 : Vec Ideal S2048x128 .f32) (x4 x5 : Vec Ideal S8192x128 .f32) (x6 : Vec Ideal S1x18x128x256 .f32)
variable (X : S49152x1536.Idx → EReal) (bi : Fin 3 → ℕ → ℕ → EReal) (s hp : ℕ)
variable (h3 : ∀ (R : Fin 2048) (l : Fin 128), (show EReal from x3 (ix2 R l)) = at2 X (s * 8192 + 2048 * t.val + R.val) (hp * 128 + l.val))
variable (h4 : ∀ (R : Fin 8192) (l : Fin 128), (show EReal from x4 (ix2 R l)) = at2 X (s * 8192 + R.val) (512 + hp * 128 + l.val))
variable (h5 : ∀ (R : Fin 8192) (l : Fin 128), (show EReal from x5 (ix2 R l)) = at2 X (s * 8192 + R.val) (1024 + hp * 128 + l.val))
variable (h6 : ∀ (P : Fin 18) (r : Fin 128) (j : Fin 256) (b : Fin 3), P.val / 6 = b.val → (show EReal from x6 (ix4 0 P r j)) = entry bi hp P.val r.val j.val b)

include ht h3 h4 h6 in
theorem lses_at (b : Fin 3) (y : Fin 2048) (c : Fin 128) : (show EReal from lses i x3 x4 x6 (ix3 b y c)) = branchL X bi b s (2048 * t.val + y.val) (hp * 2 + c.val / 64) := by
  unfold lses stack
  match b with
  | ⟨0, _⟩ =>
    exact (if_pos (c := (0 : ℕ) = 0) rfl).trans (lse1 i t ht x3 x4 x6 X bi s hp h3 h4 h6 y c _ _ rfl rfl)
  | ⟨1, _⟩ =>
    exact (if_neg (c := (1 : ℕ) = 0) (by decide)).trans ((if_pos (c := (1 : ℕ) = 1) rfl).trans (lse2 i t ht x3 x4 x6 X bi s hp h3 h4 h6 y c _ _ rfl rfl))
  | ⟨2, _⟩ =>
    exact (if_neg (c := (2 : ℕ) = 0) (by decide)).trans ((if_neg (c := (2 : ℕ) = 1) (by decide)).trans (lse3 i t ht x3 x4 x6 X bi s hp h3 h4 h6 y c _ _ rfl rfl))

include ht h3 h4 h5 h6 in
theorem outs_at (b : Fin 3) (y : Fin 2048) (c : Fin 128) : (show EReal from outs i x3 x4 x5 x6 (ix3 b y c)) = branchO X bi b s (2048 * t.val + y.val) (hp * 2 + c.val / 64) (c.val % 64) := by
  unfold outs stack
  match b with
  | ⟨0, _⟩ =>
    exact (if_pos (c := (0 : ℕ) = 0) rfl).trans (out1 i t ht x3 x4 x5 x6 X bi s hp h3 h4 h5 h6 y c _ _ rfl rfl)
  | ⟨1, _⟩ =>
    exact (if_neg (c := (1 : ℕ) = 0) (by decide)).trans ((if_pos (c := (1 : ℕ) = 1) rfl).trans (out2 i t ht x3 x4 x5 x6 X bi s hp h3 h4 h5 h6 y c _ _ rfl rfl))
  | ⟨2, _⟩ =>
    exact (if_neg (c := (2 : ℕ) = 0) (by decide)).trans ((if_neg (c := (2 : ℕ) = 1) (by decide)).trans (out3 i t ht x3 x4 x5 x6 X bi s hp h3 h4 h5 h6 y c _ _ rfl rfl))

include ht h3 h4 h5 h6 in
/-- The body's block, from finite queries, keys and biases. -/
theorem body_at (hX : ∀ r c, c < 1024 → IsReal (at2 X r c)) (hb : ∀ b h o, IsReal (bi b h o)) (hhp : hp < 4) (y : Fin 2048) (c : Fin 128) :
    (show EReal from merge (outs i x3 x4 x5 x6) (lses i x3 x4 x6) (ix2 y c)) = result X bi s (2048 * t.val + y.val) (hp * 2 + c.val / 64) (c.val % 64) := by
  have ht4 : t.val < 4 := t.isLt
  have hl : ∀ b : Fin 3, (show EReal from lses i x3 x4 x6 (ix3 b y c)) = _ := fun b => lses_at i t ht x3 x4 x6 X bi s hp h3 h4 h6 b y c
  have hf : (fun b : Fin 3 => (show EReal from lses i x3 x4 x6 (ix3 b y c))) = fun b => branchL X bi b s (2048 * t.val + y.val) (hp * 2 + c.val / 64) := funext hl
  refine (merge_at _ _ y c fun b => ?_).trans ?_
  · obtain ⟨r, hr⟩ := branchL_real X bi hX hb b s (2048 * t.val + y.val) (hp * 2 + c.val / 64) (by omega) (by omega)
    exact ⟨r, (hl b).trans hr⟩
  · unfold result
    have hw : ∀ b : Fin 3, Ideal.exp ((show EReal from lses i x3 x4 x6 (ix3 b y c)) - top fun b : Fin 3 => (show EReal from lses i x3 x4 x6 (ix3 b y c)))
        = Ideal.exp (branchL X bi b s (2048 * t.val + y.val) (hp * 2 + c.val / 64) - top fun b => branchL X bi b s (2048 * t.val + y.val) (hp * 2 + c.val / 64)) := fun b =>
      congrArg Ideal.exp (congrArg₂ (fun x y : EReal => x - y) (hl b) (congrArg top hf))
    exact Finset.sum_congr rfl fun b _ => Ideal.mul_congr (congrArg₂ Ideal.div (hw b) (Finset.sum_congr rfl fun b' _ => hw b')) (outs_at i t ht x3 x4 x5 x6 X bi s hp h3 h4 h5 h6 b y c)

end

end Cert.AttIdeal.Hand

end
-- ==== Proof.Att.FrameIdeal.lean ====
/- The attention kernel terminates and leaves its arguments as they were; its output array block by block. -/
module

public import proofs.«01_k».proof.Proof.Att.BodyIdeal
public import Idealize.ShloMosaic.Lib.Claim
public import Idealize.ShloMosaic.Lib.Ring
public import Idealize.ShloMosaic.Lib.WordCmp

@[expose] public section

set_option maxRecDepth 65536
set_option maxHeartbeats 1000000

noncomputable section

namespace Cert.AttIdeal.Hand

open Cert.AttIdeal Cert.AttIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄A" => MT nD τ sig Unit (Elt F) ℕ (UR sig nD τ) ℕ

variable (m : (ℓ : Loc nD τ sig) → Buf (Elt F) ℓ) (ρ : Dev nD → PrngReg)

/-- The contents the kernel's call finds: the host operations before it applied. -/
abbrev V (c : Dev nD) (b : Ref sig .tc) : Buf (Elt F) ((c : Thread nD τ).loc b) := StableHlo.after hostOps0 (fun b => m (c, b)) b

theorem fresh0 : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub fresh0 main_chain

/-- The host operations write neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call keeps: each input's buffer at its block, the output's at the body's result, the inputs' arrays shared. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = out4 (grid0.coords t) (iblk m c 0 t) (iblk m c 1 t) (iblk m c 2 t) (iblk m c 3 t) := by dsimp only [dats]

/-- An input's current buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-- Before the body at point `t`, -/
def bodyPre (c : Dev nD) (t : Fin cfg0.N) : sProp 𝕄A :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and after it. -/
def bodyPost (c : Dev nD) (t : Fin cfg0.N) : sProp 𝕄A :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4]
  unfold Pipeline.ΦA
  rw [scopedRest0_eq]
  iintro ⟨⟨⟨⟨%g0, HS0⟩, ⟨%g1, HS1⟩⟩, Hr⟩, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (Memref.whole cc0_scratch0) _ (Memref.whole cc0_scratch1) _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [HS0]
  · iexists g0; rw [owns_whole]; iexact HS0
  isplitl [HS1]
  · iexists g1; rw [owns_whole]; iexact HS1
  iintro ⟨H0, H1, H2, H3, H4, ⟨%e0, HS0⟩, ⟨%e1, HS1⟩⟩
  isplitl [HS0 HS1 Hr]
  · isplitl [HS0 HS1]
    · isplitl [HS0]
      · iexists e0; rw [owns_whole]; exact .rfl
      · iexists e1; rw [owns_whole]; exact .rfl
    · iexact Hr
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, every array of the call at its computed contents and every counter zero. -/
theorem run_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments after a run. -/
theorem args_kept {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1) :=
  ⟨((h c).1 0).trans (((dats m 0 c).arrAt_in 0 rfl _).trans ((A_eq m c 0).trans (V_arg0 m c))),
    ((h c).2 main_arg1 (Pipeline.mem_restRefs_of main_arg1 (by decide) (by decide))).trans (V_arg1 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => args_kept m h.1 c, h.2⟩) (run_quiescent m ρ)

end Cert.AttIdeal.Hand

end
-- ==== Proof.Att.RefCommon.lean ====
/- The reference's gathers, reductions, bias and masks at an index. -/
module

public import proofs.«01_k».proof.Proof.Gen.AttRefIdeal.Run
public import proofs.«01_k».proof.Proof.Att.Spec
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

/-- Rows of the bias gathered by bucket, -/
theorem gather_rows {α : Type} (x : S32x8.Idx → α) (idx : IVec S3x511x1 32) (a : Fin 3) (o : Fin 511) (h : Fin 8) (w : Fin 32) (hw : min (idx (ix3 a o 0)).toInt.toNat 31 = w.val) :
    Host.gather gather_S32x8_S3x511x1_S3x511x8_2_0_n_n_0_2_18 x idx (ix3 a o h) = x (ix2 w h) := by
  unfold Host.gather
  refine congrArg x (funext fun k => Fin.ext ?_)
  match k with
  | ⟨0, _⟩ =>
    show min (idx _).toInt.toNat _ + 0 + 0 = w.val
    have e : GatherDims.siIdx gather_S32x8_S3x511x1_S3x511x8_2_0_n_n_0_2_18 (ix3 a o h) ⟨0, by decide⟩ = ix3 a o 0 := by
      funext b; refine Fin.ext ?_
      match b with
      | ⟨0, _⟩ => rfl
      | ⟨1, _⟩ => rfl
      | ⟨2, _⟩ => rfl
    rw [← hw, ← e]; rfl
  | ⟨1, _⟩ => exact Nat.zero_add _

/-- and columns of that by offset. -/
theorem gather_offsets {α : Type} (x : S3x511x8.Idx → α) (idx : IVec S64x192x1 32) (a : Fin 3) (q : Fin 64) (j : Fin 192) (h : Fin 8) (w : Fin 511) (hw : min (idx (ix3 q j 0)).toInt.toNat 510 = w.val) :
    Host.gather gather_S3x511x8_S64x192x1_S3x64x192x8_03_1_n_n_1_2_318 x idx (ix4 a q j h) = x (ix3 a w h) := by
  unfold Host.gather
  refine congrArg x (funext fun k => Fin.ext ?_)
  match k with
  | ⟨0, _⟩ => exact Nat.zero_add _
  | ⟨1, _⟩ =>
    show min (idx _).toInt.toNat _ + 0 + 0 = w.val
    have e : GatherDims.siIdx gather_S3x511x8_S64x192x1_S3x64x192x8_03_1_n_n_1_2_318 (ix4 a q j h) ⟨0, by decide⟩ = ix3 q j 0 := by
      funext b; refine Fin.ext ?_
      match b with
      | ⟨0, _⟩ => rfl
      | ⟨1, _⟩ => rfl
      | ⟨2, _⟩ => rfl
    rw [← hw, ← e]; rfl
  | ⟨2, _⟩ => exact Nat.zero_add _

/-- The last axis of six reduced: the indices over a result index, -/
theorem fiber6 {n0 n1 n2 n3 n4 n5 : ℕ} (H : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    H.drop i = ix5 a b c d e ↔ ∃ k : Fin n5, ix6 a b c d e k = i := by
  constructor
  · intro E
    refine ⟨i 5, ?_⟩
    funext x; apply Fin.ext
    match x with
    | ⟨0, _⟩ => exact (congrArg Fin.val (congrFun E 0)).symm
    | ⟨1, _⟩ => exact (congrArg Fin.val (congrFun E 1)).symm
    | ⟨2, _⟩ => exact (congrArg Fin.val (congrFun E 2)).symm
    | ⟨3, _⟩ => exact (congrArg Fin.val (congrFun E 3)).symm
    | ⟨4, _⟩ => exact (congrArg Fin.val (congrFun E 4)).symm
    | ⟨5, _⟩ => rfl
  · rintro ⟨k, rfl⟩
    funext x; apply Fin.ext
    match x with
    | ⟨0, _⟩ => rfl
    | ⟨1, _⟩ => rfl
    | ⟨2, _⟩ => rfl
    | ⟨3, _⟩ => rfl
    | ⟨4, _⟩ => rfl

/-- a maximum over them, -/
theorem max6 {n0 n1 n2 n3 n4 n5 : ℕ} (H : (⟨6, ![n0, n1, n2, n3, n4, n5]⟩ : Shape).ReducesTo [5] ⟨5, ![n0, n1, n2, n3, n4]⟩)
    (a : Fin n0) (b : Fin n1) (c : Fin n2) (d : Fin n3) (e : Fin n4) (v : (⟨6, ![n0, n1, n2, n3, n4, n5]⟩ : Shape).Idx → EReal) (z : EReal) :
    (Finset.univ.filter fun i => H.drop i = ix5 a b c d e).fold max z v = Finset.fold max z (fun k : Fin n5 => v (ix6 a b c d e k)) Finset.univ :=
  Finset.fold_filter_eq_fold_of_fiber max _ (fun k : Fin n5 => ix6 a b c d e k) (fun _ _ E => congrFun E 5) (fiber6 H a b c d e) z v

/-- and a sum. -/
theorem sum6 {n0 n1 n2 n3 n4 n5 : ℕ} (H : (⟨6, ![n0, n1, n2, n3, n4, n5]⟩ : Shape).ReducesTo [5] ⟨5, ![n0, n1, n2, n3, n4]⟩)
    (a : Fin n0) (b : Fin n1) (c : Fin n2) (d : Fin n3) (e : Fin n4) (v : (⟨6, ![n0, n1, n2, n3, n4, n5]⟩ : Shape).Idx → EReal) (z : EReal) :
    Ideal.hostReduceAdd H v z (ix5 a b c d e) = z + ∑ k : Fin n5, v (ix6 a b c d e k) :=
  congrArg (z + ·) (Finset.sum_filter_eq_sum_of_fiber _ (fun k : Fin n5 => ix6 a b c d e k) (fun _ _ E => congrFun E 5) (fiber6 H a b c d e) v)

variable (V0 : Valuation τ sig (Elt Ideal))

/-- The two arguments. -/
abbrev X : S49152x1536.Idx → EReal := V0 (Proc.devRef .tc main_arg0)
abbrev B : S32x8.Idx → EReal := V0 (Proc.devRef .tc main_arg1)

/-- The row of the bias that branch `a` uses at offset `o - 255`, -/
def rowOf (a : Fin 3) (o : Fin 511) : ℕ :=
  min (Scalar.select (IntOp.cmpi CmpIPredicate.slt (res_main_c V0 (ix2 a o)) 0#32) (IntOp.addi (res_main_c V0 (ix2 a o)) 32#32) (res_main_c V0 (ix2 a o))).toInt.toNat 31

/-- and the bias of a head there. -/
def bi (a : Fin 3) (h o : ℕ) : EReal := if ho : o < 511 then at2 (B V0) (rowOf V0 a ⟨o, ho⟩) h else 0

theorem off_val : ∀ (q : Fin 64) (j : Fin 192), min (Scalar.select
      (IntOp.cmpi CmpIPredicate.slt (IntOp.addi (IntOp.subi (IntOp.subi (BitVec.ofNat 32 j.val) (BitVec.ofNat 32 q.val)) 64#32) 255#32) 0#32)
      (IntOp.addi (IntOp.addi (IntOp.subi (IntOp.subi (BitVec.ofNat 32 j.val) (BitVec.ofNat 32 q.val)) 64#32) 255#32) 511#32)
      (IntOp.addi (IntOp.subi (IntOp.subi (BitVec.ofNat 32 j.val) (BitVec.ofNat 32 q.val)) 64#32) 255#32)).toInt.toNat 510 = j.val + 191 - q.val := by
  decide +kernel

theorem bias (a : Fin 3) (h : Fin 8) (q : Fin 64) (j : Fin 192) : (show EReal from res_main_v31 V0 (ix4 a h q j)) = bi V0 a h.val (j.val + 191 - q.val) := by
  have ho : j.val + 191 - q.val < 511 := by omega
  have hr : rowOf V0 a ⟨_, ho⟩ < 32 := by unfold rowOf; omega
  unfold bi
  rw [dif_pos ho, ← at2_eq _ _ _ hr h.isLt]
  pointwise [res_main_v31]
  refine (gather_offsets _ _ a q j h ⟨_, ho⟩ ?_).trans (gather_rows _ _ a ⟨_, ho⟩ h ⟨_, hr⟩ ?_)
  · pointwise [res_main_v23, res_main_v11]
    exact off_val q j
  · pointwise []
    rfl

theorem band : ∀ (q : Fin 64) (j : Fin 192), IntOp.cmpi CmpIPredicate.sle (IntOp.absi (IntOp.subi (IntOp.subi (BitVec.ofNat 32 j.val) (BitVec.ofNat 32 q.val)) 64#32)) 64#32
    = if q.val ≤ j.val ∧ j.val ≤ q.val + 128 then 1#1 else 0#1 := by decide +kernel

theorem v14 (q : Fin 64) (j : Fin 192) : res_main_v14 V0 (ix2 q j) = if q.val ≤ j.val ∧ j.val ≤ q.val + 128 then 1#1 else 0#1 := by
  pointwise [res_main_v14, res_main_v11]
  exact band q j

theorem query (s : Fin 6) (p : Fin 8192) (h : Fin 8) (e : Fin 64) : (show EReal from res_main_v2 V0 (ix4 s p h e)) = at2 (X V0) (s.val * 8192 + p.val) (h.val * 64 + e.val) := by
  pointwise [res_main_v2, res_main_v0]
  exact at2_eq _ _ _ _ _

end Cert.AttRefIdeal.Hand

end
-- ==== Proof.Att.Table.lean ====
/- The host's table of biases, entry by entry. -/
module

public import proofs.«01_k».proof.Proof.Att.FrameIdeal
public import proofs.«01_k».proof.Proof.Att.Branches
public import proofs.«01_k».proof.Proof.Att.RefCommon
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttIdeal.Hand

open Cert.AttIdeal Cert.AttIdeal.Gen

/-- Rows of the bias gathered by bucket, -/
theorem gather_rows {α : Type} (x : S32x8.Idx → α) (idx : IVec S3x511x1 32) (a : Fin 3) (o : Fin 511) (h : Fin 8) (w : Fin 32) (hw : min (idx (ix3 a o 0)).toInt.toNat 31 = w.val) :
    Host.gather gather_S32x8_S3x511x1_S3x511x8_2_0_n_n_0_2_18 x idx (ix3 a o h) = x (ix2 w h) := by
  unfold Host.gather
  refine congrArg x (funext fun k => Fin.ext ?_)
  match k with
  | ⟨0, _⟩ =>
    show min (idx _).toInt.toNat _ + 0 + 0 = w.val
    have e : GatherDims.siIdx gather_S32x8_S3x511x1_S3x511x8_2_0_n_n_0_2_18 (ix3 a o h) ⟨0, by decide⟩ = ix3 a o 0 := by
      funext b; refine Fin.ext ?_
      match b with
      | ⟨0, _⟩ => rfl
      | ⟨1, _⟩ => rfl
      | ⟨2, _⟩ => rfl
    rw [← hw, ← e]; rfl
  | ⟨1, _⟩ => exact Nat.zero_add _

/-- and columns of that by offset. -/
theorem gather_offsets {α : Type} (x : S3x511x8.Idx → α) (idx : IVec S3x128x256x1 32) (a v : Fin 3) (q : Fin 128) (j : Fin 256) (h : Fin 8) (w : Fin 511) (hw : min (idx (ix4 v q j 0)).toInt.toNat 510 = w.val) :
    Host.gather gather_S3x511x8_S3x128x256x1_S3x3x128x256x8_04_1_n_n_1_3_318 x idx (ix5 a v q j h) = x (ix3 a w h) := by
  unfold Host.gather
  refine congrArg x (funext fun k => Fin.ext ?_)
  match k with
  | ⟨0, _⟩ => exact Nat.zero_add _
  | ⟨1, _⟩ =>
    show min (idx _).toInt.toNat _ + 0 + 0 = w.val
    have e : GatherDims.siIdx gather_S3x511x8_S3x128x256x1_S3x3x128x256x8_04_1_n_n_1_3_318 (ix5 a v q j h) ⟨0, by decide⟩ = ix4 v q j 0 := by
      funext b; refine Fin.ext ?_
      match b with
      | ⟨0, _⟩ => rfl
      | ⟨1, _⟩ => rfl
      | ⟨2, _⟩ => rfl
      | ⟨3, _⟩ => rfl
    rw [← hw, ← e]; rfl
  | ⟨2, _⟩ => exact Nat.zero_add _

theorem select_one {α : Type} (a b : α) : Scalar.select 1#1 a b = a := rfl
theorem select_zero {α : Type} (a b : α) : Scalar.select 0#1 a b = b := rfl

/-- Both programs carry the same table of buckets. -/
theorem same_buckets : ∀ i : Fin 1533, Cert.AttIdeal.lit0 i = Cert.AttRefIdeal.lit0 i := by decide +kernel

/-- The distance of key `j` from query `q` in a tile that starts `64 * v` before its keys, -/
theorem gap (v : Fin 3) (q : Fin 128) (j : Fin 256) (n : Fin 511) (hn : n.val = j.val + 255 - (q.val + 64 * v.val)) :
    IntOp.subi (IntOp.subi (BitVec.ofNat 32 j.val) (BitVec.ofNat 32 q.val)) (IntOp.muli 64#32 (BitVec.ofNat 32 v.val)) = IntOp.subi (BitVec.ofNat 32 n.val) 255#32 := by
  show (BitVec.ofNat 32 j.val - BitVec.ofNat 32 q.val) - 64#32 * BitVec.ofNat 32 v.val = BitVec.ofNat 32 n.val - 255#32
  apply BitVec.eq_of_toNat_eq
  simp only [BitVec.toNat_sub, BitVec.toNat_mul, BitVec.toNat_ofNat]
  omega

/-- whether it is in the band, -/
theorem band : ∀ n : Fin 511, IntOp.cmpi CmpIPredicate.sle (IntOp.absi (IntOp.subi (BitVec.ofNat 32 n.val) 255#32)) 64#32 = if 191 ≤ n.val ∧ n.val ≤ 319 then 1#1 else 0#1 := by
  decide +kernel

/-- and the column it looks up. -/
theorem column : ∀ n : Fin 511, min (Scalar.select
      (IntOp.cmpi CmpIPredicate.slt (IntOp.minsi (IntOp.maxsi (IntOp.addi (IntOp.subi (BitVec.ofNat 32 n.val) 255#32) 255#32) 0#32) 510#32) 0#32)
      (IntOp.addi (IntOp.minsi (IntOp.maxsi (IntOp.addi (IntOp.subi (BitVec.ofNat 32 n.val) 255#32) 255#32) 0#32) 510#32) 511#32)
      (IntOp.minsi (IntOp.maxsi (IntOp.addi (IntOp.subi (BitVec.ofNat 32 n.val) 255#32) 255#32) 0#32) 510#32)).toInt.toNat 510 = n.val := by
  decide +kernel

variable (m : (ℓ : Loc nD τ sig) → Buf (Elt Ideal) ℓ)
variable (V0 : Valuation Cert.AttRefIdeal.τ Cert.AttRefIdeal.sig (Elt Ideal))

/-- Both programs look up the same row. -/
theorem row_of (b : Fin 3) (o : Fin 511) : min (Scalar.select (IntOp.cmpi CmpIPredicate.slt (lit0 (S3x511.rowMajor (ix2 b o))) 0#32) (IntOp.addi (lit0 (S3x511.rowMajor (ix2 b o))) 32#32) (lit0 (S3x511.rowMajor (ix2 b o)))).toInt.toNat 31
    = Cert.AttRefIdeal.Hand.rowOf V0 b o :=
  congrArg (fun w : BitVec 32 => min (Scalar.select (IntOp.cmpi CmpIPredicate.slt w 0#32) (IntOp.addi w 32#32) w).toInt.toNat 31) (same_buckets (S3x511.rowMajor (ix2 b o)))

/-- The reference's bias of a branch, a head and an offset in range, as an entry of its argument, -/
theorem bi_at (b : Fin 3) (h o : ℕ) (ho : o < 511) (hr : Cert.AttRefIdeal.Hand.rowOf V0 b ⟨o, ho⟩ < 32) (hh : h < 8) :
    Cert.AttRefIdeal.Hand.bi V0 b h o = Cert.AttRefIdeal.Hand.B V0 (ix2 ⟨Cert.AttRefIdeal.Hand.rowOf V0 b ⟨o, ho⟩, hr⟩ ⟨h, hh⟩) := by
  unfold Cert.AttRefIdeal.Hand.bi
  rw [dif_pos ho]
  exact (at2_eq _ _ _ hr hh).symm

/-- and the kernel's table of biases. -/
theorem table_at (c : Dev nD) (hB : Cert.AttRefIdeal.Hand.B V0 = m (c, Proc.devRef .tc main_arg1)) (hp : Fin 4) (P : Fin 18) (q : Fin 128) (j : Fin 256) (b : Fin 3) (hb : P.val / 6 = b.val) :
    (show EReal from V m c main_v35 (ix4 hp P q j)) = entry (Cert.AttRefIdeal.Hand.bi V0) hp.val P.val q.val j.val b := by
  have e : V m c main_v35 = StableHlo.after hostOps0 (fun b => m (c, b)) (Proc.devRef .tc main_v35) := rfl
  rw [e]
  simp only [hostOps0]
  after_results_simp
  pointwise []
  have hv : P.val / 2 % 3 < 3 := by omega
  have hn : j.val + 255 - (q.val + 64 * (P.val / 2 % 3)) < 511 := by omega
  have hg := gap ⟨P.val / 2 % 3, hv⟩ q j ⟨_, hn⟩ rfl
  have hr : Cert.AttRefIdeal.Hand.rowOf V0 b ⟨_, hn⟩ < 32 := by unfold Cert.AttRefIdeal.Hand.rowOf; omega
  have hh : hp.val * 2 + P.val % 2 < 8 := by omega
  have hb3 : (⟨P.val / 2 / 3, by omega⟩ : Fin 3) = b := Fin.ext (by show P.val / 2 / 3 = b.val; omega)
  have hbd := band ⟨_, hn⟩
  rw [hg]
  by_cases hc : q.val + 64 * (P.val / 2 % 3) ≤ j.val + 64 ∧ j.val ≤ q.val + 64 * (P.val / 2 % 3) + 64
  · rw [hbd.trans (if_pos (show 191 ≤ j.val + 255 - (q.val + 64 * (P.val / 2 % 3)) ∧ j.val + 255 - (q.val + 64 * (P.val / 2 % 3)) ≤ 319 by omega))]
    refine Eq.trans ?_ (if_pos hc).symm
    refine Eq.trans (Eq.trans (select_one _ _) (Eq.trans (gather_offsets _ _ _ _ q j _ ⟨_, hn⟩ ?_) ((gather_rows _ _ _ ⟨_, hn⟩ _ ⟨_, hr⟩ ?_).trans ?_))) (bi_at V0 b _ _ hn hr hh).symm
    · pointwise []
      rw [hg]
      exact column ⟨_, hn⟩
    · pointwise []
      rw [hb3]
      exact row_of V0 b ⟨_, hn⟩
    · rw [hB]
  · rw [hbd.trans (if_neg (show ¬ (191 ≤ j.val + 255 - (q.val + 64 * (P.val / 2 % 3)) ∧ j.val + 255 - (q.val + 64 * (P.val / 2 % 3)) ≤ 319) by omega))]
    exact (select_zero _ _).trans (ofBits_negInf.trans (if_neg hc).symm)

end Cert.AttIdeal.Hand

end
-- ==== Proof.Att.Finite.lean ====
/- What the precondition says: the queries, the keys and the biases are reals. -/
module

public import proofs.«01_k».proof.Pre_finite
public import proofs.«01_k».proof.Proof.Att.Spec
public import Idealize.ShloMosaic.Lib.ReduceAll
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttSpec

open Cert.Pre_finite

instance finite_facts : Cert.Pre_finite.Facts := ⟨by decide, by decide, by decide, by decide, by decide, by decide⟩

/-- An entry below +∞ in absolute value is a real. -/
theorem isReal_of_lt (x : EReal) (h : FloatOps.cmpf (F := Ideal) (φ := .f32) .olt (FloatOps.absf (F := Ideal) (φ := .f32) x) (Ideal.ofBits .f32 0x7F800000#32) = 1#1) : IsReal x := by
  have htop : Ideal.ofBits .f32 0x7F800000#32 = ⊤ := by simp [Ideal.ofBits, Ideal.ieee]
  have h1 : Ideal.cmp .olt (max x (-x)) (Ideal.ofBits .f32 0x7F800000#32) = 1#1 := h
  have h2 : max x (-x) < ⊤ := by
    rw [htop] at h1
    by_contra hn
    simp [Ideal.cmp, hn] at h1
  induction x with
  | bot => exact absurd h2 (by simp)
  | top => exact absurd h2 (by simp)
  | coe r => exact ⟨r, rfl⟩

theorem finite_reals (x : FVec Ideal S49152x1536 .f32) (b : FVec Ideal S32x8 .f32) (h : fn (F := Ideal) x b = fun _ => 1#1) :
    (∀ r c, c < 1024 → IsReal (at2 x r c)) ∧ ∀ r c, IsReal (at2 b r c) := by
  have e := congrFun h (fun k => k.elim0)
  simp only [fn] at e
  obtain ⟨e1, e2⟩ := IntOp.andi_eq_one.1 e
  haveI : Subsingleton S_.Idx := ⟨fun i j => funext fun k => k.elim0⟩
  refine ⟨fun r c hc => isReal_at2 r c fun a k hk => ?_, fun r c => isReal_at2 r c fun a k _ => ?_⟩
  · have h1 := Host.reduce_andi_all _ _ _ _ _ e1 (ix2 a ⟨k.val, by omega⟩)
    refine isReal_of_lt _ (Eq.trans ?_ h1)
    pointwise []
  · have h1 := Host.reduce_andi_all _ _ _ _ _ e2 (ix2 a k)
    refine isReal_of_lt _ (Eq.trans ?_ h1)
    rfl

end Cert.AttSpec

end
-- ==== Proof.Att.RefBranch0.lean ====
/- The reference's windows of branch 0: scores, exponentials and their sums at an index. -/
module

public import proofs.«01_k».proof.Proof.Att.RefCommon
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

variable (V0 : Valuation τ sig (Elt Ideal))

/-- Branch 0: the padded keys, -/
theorem key0 (s : Fin 6) (n : Fin 130) (j : Fin 64) (r : Fin 1) (h : Fin 8) (e : Fin 64) : (show EReal from res_main_v37 V0 (ix6 s n j r h e))
    = if 64 ≤ n.val * 64 + j.val ∧ n.val * 64 + j.val < 8192 + 64 then at2 (X V0) (s.val * 8192 + (n.val * 64 + j.val - 64) * 1) (512 + h.val * 64 + e.val) else 0 := by
  pointwise [res_main_v37, res_main_v4, res_main_v0]
  by_cases hc : 64 ≤ n.val * 64 + j.val ∧ n.val * 64 + j.val - 64 < 8192
  · rw [dif_pos hc, if_pos (by omega)]
    refine (at2_eq _ _ _ _ _).trans ?_
    refine at2_congr ?_ ?_ <;> omega
  · rw [dif_neg hc, if_neg (by omega)]

/-- the padded values, -/
theorem value0 (s : Fin 6) (n : Fin 130) (j : Fin 64) (r : Fin 1) (h : Fin 8) (e : Fin 64) : (show EReal from res_main_v44 V0 (ix6 s n j r h e))
    = cv (X V0) 8192 1 (s.val * 8192) (h.val * 64 + e.val) (n.val * 64 + j.val) := by
  pointwise [res_main_v44, res_main_v6, res_main_v0]
  unfold cv
  by_cases hc : 64 ≤ n.val * 64 + j.val ∧ n.val * 64 + j.val - 64 < 8192
  · rw [dif_pos hc, if_pos (by omega)]
    refine (at2_eq _ _ _ _ _).trans ?_
    refine at2_congr ?_ ?_ <;> omega
  · rw [dif_neg hc, if_neg (by omega)]

theorem range0 : ∀ (n : Fin 128) (j : Fin 192), IntOp.andi
          (IntOp.cmpi CmpIPredicate.sge (IntOp.subi (IntOp.addi (IntOp.muli (BitVec.ofNat 32 n.val) 64#32) (BitVec.ofNat 32 j.val)) 64#32) 0#32)
          (IntOp.cmpi CmpIPredicate.slt (IntOp.subi (IntOp.addi (IntOp.muli (BitVec.ofNat 32 n.val) 64#32) (BitVec.ofNat 32 j.val)) 64#32) 8192#32)
    = if 64 ≤ n.val * 64 + j.val ∧ n.val * 64 + j.val < 8192 + 64 then 1#1 else 0#1 := by decide +kernel

/-- the scores, -/
theorem score0 (s : Fin 6) (n : Fin 128) (r : Fin 1) (h : Fin 8) (q : Fin 64) (j : Fin 192) : (show EReal from res_main_v73 V0 (ix6 s n r h q j))
    = cs (X V0) (bi V0 0 h.val) 8192 1 (s.val * 8192) h.val (n.val * 64 + q.val) (n.val * 64 + j.val) := by
  pointwise [res_main_v73, res_main_v55]
  rw [v14, range0]
  unfold cs
  by_cases h1 : q.val ≤ j.val ∧ j.val ≤ q.val + 128
  · by_cases h2 : 64 ≤ n.val * 64 + j.val ∧ n.val * 64 + j.val < 8192 + 64
    · rw [if_pos h1, if_pos h2, if_pos ⟨by omega, h2⟩]
      refine Ideal.add_congr (Ideal.mul_congr ?_ rfl) ?_
      · unfold qk
        refine Finset.sum_congr rfl fun e _ => Ideal.mul_congr ?_ ?_
        · rw [show ((res_main_v2 V0 _ : EReal)) = _ from query V0 s _ h e]
          all_goals (refine at2_congr ?_ rfl; (try dsimp only) <;> omega)
        · by_cases h3 : j.val < 64
          · rw [dif_pos h3]
            refine (key0 V0 _ _ _ _ _ _).trans ?_
            rw [if_pos (by dsimp only; omega)]
            all_goals (refine at2_congr ?_ rfl; (try dsimp only) <;> omega)
          · rw [dif_neg h3]
            by_cases h4 : j.val - 64 < 64
            · rw [dif_pos h4]
              refine (key0 V0 _ _ _ _ _ _).trans ?_
              simp only [show (1 + n.val) * 64 + (j.val - 64) = n.val * 64 + j.val by omega]
              rw [if_pos h2]
              all_goals (refine at2_congr ?_ rfl; (try dsimp only) <;> omega)
            · rw [dif_neg h4]
              refine (key0 V0 _ _ _ _ _ _).trans ?_
              simp only [show (2 + n.val) * 64 + (j.val - 64 - 64) = n.val * 64 + j.val by omega]
              rw [if_pos h2]
              all_goals (refine at2_congr ?_ rfl; (try dsimp only) <;> omega)
      · refine (bias V0 0 h q j).trans ?_
        refine congrArg (bi V0 0 h.val) ?_
        omega
    · have h5 : ¬ ((n.val * 64 + q.val ≤ n.val * 64 + j.val ∧ n.val * 64 + j.val ≤ n.val * 64 + q.val + 128) ∧ 64 ≤ n.val * 64 + j.val ∧ n.val * 64 + j.val < 8192 + 64) := fun h => h2 h.2
      rw [if_pos h1, if_neg h2, if_neg h5]
      exact ofBits_negInf
  · have h5 : ¬ ((n.val * 64 + q.val ≤ n.val * 64 + j.val ∧ n.val * 64 + j.val ≤ n.val * 64 + q.val + 128) ∧ 64 ≤ n.val * 64 + j.val ∧ n.val * 64 + j.val < 8192 + 64) := fun h => h1 (by omega)
    have e : ∀ x : BitVec 1, IntOp.andi 0#1 x = 0#1 := by decide
    rw [if_neg h1, e, if_neg h5]
    exact ofBits_negInf

/-- their maximum, -/
theorem max0 (s : Fin 6) (n : Fin 128) (r : Fin 1) (h : Fin 8) (q : Fin 64) : (show EReal from res_main_v74 V0 (ix5 s n r h q))
    = top (fun j : Fin 192 => cs (X V0) (bi V0 0 h.val) 8192 1 (s.val * 8192) h.val (n.val * 64 + q.val) (n.val * 64 + j.val)) := by
  pointwise [res_main_v74]
  refine (max6 _ s n r h q _ _).trans ?_
  rw [ofBits_negInf]
  unfold top
  exact Finset.fold_congr fun j _ => score0 V0 s n r h q j

/-- the exponentials, -/
theorem exp0 (s : Fin 6) (n : Fin 128) (r : Fin 1) (h : Fin 8) (q : Fin 64) (j : Fin 192) : (show EReal from res_main_v78 V0 (ix6 s n r h q j))
    = Ideal.exp (cs (X V0) (bi V0 0 h.val) 8192 1 (s.val * 8192) h.val (n.val * 64 + q.val) (n.val * 64 + j.val)
      - top (fun j : Fin 192 => cs (X V0) (bi V0 0 h.val) 8192 1 (s.val * 8192) h.val (n.val * 64 + q.val) (n.val * 64 + j.val))) := by
  have e : (show EReal from res_main_v78 V0 (ix6 s n r h q j)) = Ideal.exp ((show EReal from res_main_v73 V0 (ix6 s n r h q j)) - (show EReal from res_main_v74 V0 (ix5 s n r h q))) := by
    pointwise [res_main_v78]
    rw [show r = 0 from Subsingleton.elim _ _]
  refine e.trans ?_
  exact congrArg Ideal.exp (congrArg₂ (fun x y : EReal => x - y) (score0 V0 s n r h q j) (max0 V0 s n r h q))

/-- and their sum. -/
theorem mass0 (s : Fin 6) (n : Fin 128) (r : Fin 1) (h : Fin 8) (q : Fin 64) : (show EReal from res_main_v79 V0 (ix5 s n r h q))
    = mass (fun j : Fin 192 => cs (X V0) (bi V0 0 h.val) 8192 1 (s.val * 8192) h.val (n.val * 64 + q.val) (n.val * 64 + j.val)) := by
  pointwise [res_main_v79]
  refine (sum6 _ s n r h q _ _).trans ?_
  rw [zero_add]
  unfold mass
  exact Finset.sum_congr rfl fun j _ => exp0 V0 s n r h q j

end Cert.AttRefIdeal.Hand

end
-- ==== Proof.Att.RefBranch1.lean ====
/- The reference's windows of branch 1: scores, exponentials and their sums at an index. -/
module

public import proofs.«01_k».proof.Proof.Att.RefCommon
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

variable (V0 : Valuation τ sig (Elt Ideal))

/-- Branch 1: the padded keys, -/
theorem key1 (s : Fin 6) (n : Fin 34) (j : Fin 64) (r : Fin 4) (h : Fin 8) (e : Fin 64) : (show EReal from res_main_v96 V0 (ix6 s n j r h e))
    = if 64 ≤ n.val * 64 + j.val ∧ n.val * 64 + j.val < 2048 + 64 then at2 (X V0) (s.val * 8192 + r.val + (n.val * 64 + j.val - 64) * 4) (512 + h.val * 64 + e.val) else 0 := by
  pointwise [res_main_v96, res_main_v4, res_main_v0]
  by_cases hc : 64 ≤ n.val * 64 + j.val ∧ n.val * 64 + j.val - 64 < 2048
  · rw [dif_pos hc, if_pos (by omega)]
    refine (at2_eq _ _ _ _ _).trans ?_
    refine at2_congr ?_ ?_ <;> omega
  · rw [dif_neg hc, if_neg (by omega)]

/-- the padded values, -/
theorem value1 (s : Fin 6) (n : Fin 34) (j : Fin 64) (r : Fin 4) (h : Fin 8) (e : Fin 64) : (show EReal from res_main_v103 V0 (ix6 s n j r h e))
    = cv (X V0) 2048 4 (s.val * 8192 + r.val) (h.val * 64 + e.val) (n.val * 64 + j.val) := by
  pointwise [res_main_v103, res_main_v6, res_main_v0]
  unfold cv
  by_cases hc : 64 ≤ n.val * 64 + j.val ∧ n.val * 64 + j.val - 64 < 2048
  · rw [dif_pos hc, if_pos (by omega)]
    refine (at2_eq _ _ _ _ _).trans ?_
    refine at2_congr ?_ ?_ <;> omega
  · rw [dif_neg hc, if_neg (by omega)]

theorem range1 : ∀ (n : Fin 32) (j : Fin 192), IntOp.andi
          (IntOp.cmpi CmpIPredicate.sge (IntOp.subi (IntOp.addi (IntOp.muli (BitVec.ofNat 32 n.val) 64#32) (BitVec.ofNat 32 j.val)) 64#32) 0#32)
          (IntOp.cmpi CmpIPredicate.slt (IntOp.subi (IntOp.addi (IntOp.muli (BitVec.ofNat 32 n.val) 64#32) (BitVec.ofNat 32 j.val)) 64#32) 2048#32)
    = if 64 ≤ n.val * 64 + j.val ∧ n.val * 64 + j.val < 2048 + 64 then 1#1 else 0#1 := by decide +kernel

/-- the scores, -/
theorem score1 (s : Fin 6) (n : Fin 32) (r : Fin 4) (h : Fin 8) (q : Fin 64) (j : Fin 192) : (show EReal from res_main_v132 V0 (ix6 s n r h q j))
    = cs (X V0) (bi V0 1 h.val) 2048 4 (s.val * 8192 + r.val) h.val (n.val * 64 + q.val) (n.val * 64 + j.val) := by
  pointwise [res_main_v132, res_main_v114]
  rw [v14, range1]
  unfold cs
  by_cases h1 : q.val ≤ j.val ∧ j.val ≤ q.val + 128
  · by_cases h2 : 64 ≤ n.val * 64 + j.val ∧ n.val * 64 + j.val < 2048 + 64
    · rw [if_pos h1, if_pos h2, if_pos ⟨by omega, h2⟩]
      refine Ideal.add_congr (Ideal.mul_congr ?_ rfl) ?_
      · unfold qk
        refine Finset.sum_congr rfl fun e _ => Ideal.mul_congr ?_ ?_
        · rw [show ((res_main_v2 V0 _ : EReal)) = _ from query V0 s _ h e]
          all_goals (refine at2_congr ?_ rfl; (try dsimp only) <;> omega)
        · by_cases h3 : j.val < 64
          · rw [dif_pos h3]
            refine (key1 V0 _ _ _ _ _ _).trans ?_
            rw [if_pos (by dsimp only; omega)]
            all_goals (refine at2_congr ?_ rfl; (try dsimp only) <;> omega)
          · rw [dif_neg h3]
            by_cases h4 : j.val - 64 < 64
            · rw [dif_pos h4]
              refine (key1 V0 _ _ _ _ _ _).trans ?_
              simp only [show (1 + n.val) * 64 + (j.val - 64) = n.val * 64 + j.val by omega]
              rw [if_pos h2]
              all_goals (refine at2_congr ?_ rfl; (try dsimp only) <;> omega)
            · rw [dif_neg h4]
              refine (key1 V0 _ _ _ _ _ _).trans ?_
              simp only [show (2 + n.val) * 64 + (j.val - 64 - 64) = n.val * 64 + j.val by omega]
              rw [if_pos h2]
              all_goals (refine at2_congr ?_ rfl; (try dsimp only) <;> omega)
      · refine (bias V0 1 h q j).trans ?_
        refine congrArg (bi V0 1 h.val) ?_
        omega
    · have h5 : ¬ ((n.val * 64 + q.val ≤ n.val * 64 + j.val ∧ n.val * 64 + j.val ≤ n.val * 64 + q.val + 128) ∧ 64 ≤ n.val * 64 + j.val ∧ n.val * 64 + j.val < 2048 + 64) := fun h => h2 h.2
      rw [if_pos h1, if_neg h2, if_neg h5]
      exact ofBits_negInf
  · have h5 : ¬ ((n.val * 64 + q.val ≤ n.val * 64 + j.val ∧ n.val * 64 + j.val ≤ n.val * 64 + q.val + 128) ∧ 64 ≤ n.val * 64 + j.val ∧ n.val * 64 + j.val < 2048 + 64) := fun h => h1 (by omega)
    have e : ∀ x : BitVec 1, IntOp.andi 0#1 x = 0#1 := by decide
    rw [if_neg h1, e, if_neg h5]
    exact ofBits_negInf

/-- their maximum, -/
theorem max1 (s : Fin 6) (n : Fin 32) (r : Fin 4) (h : Fin 8) (q : Fin 64) : (show EReal from res_main_v133 V0 (ix5 s n r h q))
    = top (fun j : Fin 192 => cs (X V0) (bi V0 1 h.val) 2048 4 (s.val * 8192 + r.val) h.val (n.val * 64 + q.val) (n.val * 64 + j.val)) := by
  pointwise [res_main_v133]
  refine (max6 _ s n r h q _ _).trans ?_
  rw [ofBits_negInf]
  unfold top
  exact Finset.fold_congr fun j _ => score1 V0 s n r h q j

/-- the exponentials, -/
theorem exp1 (s : Fin 6) (n : Fin 32) (r : Fin 4) (h : Fin 8) (q : Fin 64) (j : Fin 192) : (show EReal from res_main_v137 V0 (ix6 s n r h q j))
    = Ideal.exp (cs (X V0) (bi V0 1 h.val) 2048 4 (s.val * 8192 + r.val) h.val (n.val * 64 + q.val) (n.val * 64 + j.val)
      - top (fun j : Fin 192 => cs (X V0) (bi V0 1 h.val) 2048 4 (s.val * 8192 + r.val) h.val (n.val * 64 + q.val) (n.val * 64 + j.val))) := by
  have e : (show EReal from res_main_v137 V0 (ix6 s n r h q j)) = Ideal.exp ((show EReal from res_main_v132 V0 (ix6 s n r h q j)) - (show EReal from res_main_v133 V0 (ix5 s n r h q))) := by
    pointwise [res_main_v137]
  refine e.trans ?_
  exact congrArg Ideal.exp (congrArg₂ (fun x y : EReal => x - y) (score1 V0 s n r h q j) (max1 V0 s n r h q))

/-- and their sum. -/
theorem mass1 (s : Fin 6) (n : Fin 32) (r : Fin 4) (h : Fin 8) (q : Fin 64) : (show EReal from res_main_v138 V0 (ix5 s n r h q))
    = mass (fun j : Fin 192 => cs (X V0) (bi V0 1 h.val) 2048 4 (s.val * 8192 + r.val) h.val (n.val * 64 + q.val) (n.val * 64 + j.val)) := by
  pointwise [res_main_v138]
  refine (sum6 _ s n r h q _ _).trans ?_
  rw [zero_add]
  unfold mass
  exact Finset.sum_congr rfl fun j _ => exp1 V0 s n r h q j

end Cert.AttRefIdeal.Hand

end
-- ==== Proof.Att.RefBranch2.lean ====
/- The reference's windows of branch 2: scores, exponentials and their sums at an index. -/
module

public import proofs.«01_k».proof.Proof.Att.RefCommon
public import Idealize.ShloMosaic.Lib.Pointwise
public import Idealize.ShloMosaic.Lib.Pipeline.ValueKit

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

variable (V0 : Valuation τ sig (Elt Ideal))

/-- Branch 2: the padded keys, -/
theorem key2 (s : Fin 6) (n : Fin 10) (j : Fin 64) (r : Fin 16) (h : Fin 8) (e : Fin 64) : (show EReal from res_main_v155 V0 (ix6 s n j r h e))
    = if 64 ≤ n.val * 64 + j.val ∧ n.val * 64 + j.val < 512 + 64 then at2 (X V0) (s.val * 8192 + r.val + (n.val * 64 + j.val - 64) * 16) (512 + h.val * 64 + e.val) else 0 := by
  pointwise [res_main_v155, res_main_v4, res_main_v0]
  by_cases hc : 64 ≤ n.val * 64 + j.val ∧ n.val * 64 + j.val - 64 < 512
  · rw [dif_pos hc, if_pos (by omega)]
    refine (at2_eq _ _ _ _ _).trans ?_
    refine at2_congr ?_ ?_ <;> omega
  · rw [dif_neg hc, if_neg (by omega)]

/-- the padded values, -/
theorem value2 (s : Fin 6) (n : Fin 10) (j : Fin 64) (r : Fin 16) (h : Fin 8) (e : Fin 64) : (show EReal from res_main_v162 V0 (ix6 s n j r h e))
    = cv (X V0) 512 16 (s.val * 8192 + r.val) (h.val * 64 + e.val) (n.val * 64 + j.val) := by
  pointwise [res_main_v162, res_main_v6, res_main_v0]
  unfold cv
  by_cases hc : 64 ≤ n.val * 64 + j.val ∧ n.val * 64 + j.val - 64 < 512
  · rw [dif_pos hc, if_pos (by omega)]
    refine (at2_eq _ _ _ _ _).trans ?_
    refine at2_congr ?_ ?_ <;> omega
  · rw [dif_neg hc, if_neg (by omega)]

theorem range2 : ∀ (n : Fin 8) (j : Fin 192), IntOp.andi
          (IntOp.cmpi CmpIPredicate.sge (IntOp.subi (IntOp.addi (IntOp.muli (BitVec.ofNat 32 n.val) 64#32) (BitVec.ofNat 32 j.val)) 64#32) 0#32)
          (IntOp.cmpi CmpIPredicate.slt (IntOp.subi (IntOp.addi (IntOp.muli (BitVec.ofNat 32 n.val) 64#32) (BitVec.ofNat 32 j.val)) 64#32) 512#32)
    = if 64 ≤ n.val * 64 + j.val ∧ n.val * 64 + j.val < 512 + 64 then 1#1 else 0#1 := by decide +kernel

/-- the scores, -/
theorem score2 (s : Fin 6) (n : Fin 8) (r : Fin 16) (h : Fin 8) (q : Fin 64) (j : Fin 192) : (show EReal from res_main_v191 V0 (ix6 s n r h q j))
    = cs (X V0) (bi V0 2 h.val) 512 16 (s.val * 8192 + r.val) h.val (n.val * 64 + q.val) (n.val * 64 + j.val) := by
  pointwise [res_main_v191, res_main_v173]
  rw [v14, range2]
  unfold cs
  by_cases h1 : q.val ≤ j.val ∧ j.val ≤ q.val + 128
  · by_cases h2 : 64 ≤ n.val * 64 + j.val ∧ n.val * 64 + j.val < 512 + 64
    · rw [if_pos h1, if_pos h2, if_pos ⟨by omega, h2⟩]
      refine Ideal.add_congr (Ideal.mul_congr ?_ rfl) ?_
      · unfold qk
        refine Finset.sum_congr rfl fun e _ => Ideal.mul_congr ?_ ?_
        · rw [show ((res_main_v2 V0 _ : EReal)) = _ from query V0 s _ h e]
          all_goals (refine at2_congr ?_ rfl; (try dsimp only) <;> omega)
        · by_cases h3 : j.val < 64
          · rw [dif_pos h3]
            refine (key2 V0 _ _ _ _ _ _).trans ?_
            rw [if_pos (by dsimp only; omega)]
            all_goals (refine at2_congr ?_ rfl; (try dsimp only) <;> omega)
          · rw [dif_neg h3]
            by_cases h4 : j.val - 64 < 64
            · rw [dif_pos h4]
              refine (key2 V0 _ _ _ _ _ _).trans ?_
              simp only [show (1 + n.val) * 64 + (j.val - 64) = n.val * 64 + j.val by omega]
              rw [if_pos h2]
              all_goals (refine at2_congr ?_ rfl; (try dsimp only) <;> omega)
            · rw [dif_neg h4]
              refine (key2 V0 _ _ _ _ _ _).trans ?_
              simp only [show (2 + n.val) * 64 + (j.val - 64 - 64) = n.val * 64 + j.val by omega]
              rw [if_pos h2]
              all_goals (refine at2_congr ?_ rfl; (try dsimp only) <;> omega)
      · refine (bias V0 2 h q j).trans ?_
        refine congrArg (bi V0 2 h.val) ?_
        omega
    · have h5 : ¬ ((n.val * 64 + q.val ≤ n.val * 64 + j.val ∧ n.val * 64 + j.val ≤ n.val * 64 + q.val + 128) ∧ 64 ≤ n.val * 64 + j.val ∧ n.val * 64 + j.val < 512 + 64) := fun h => h2 h.2
      rw [if_pos h1, if_neg h2, if_neg h5]
      exact ofBits_negInf
  · have h5 : ¬ ((n.val * 64 + q.val ≤ n.val * 64 + j.val ∧ n.val * 64 + j.val ≤ n.val * 64 + q.val + 128) ∧ 64 ≤ n.val * 64 + j.val ∧ n.val * 64 + j.val < 512 + 64) := fun h => h1 (by omega)
    have e : ∀ x : BitVec 1, IntOp.andi 0#1 x = 0#1 := by decide
    rw [if_neg h1, e, if_neg h5]
    exact ofBits_negInf

/-- their maximum, -/
theorem max2 (s : Fin 6) (n : Fin 8) (r : Fin 16) (h : Fin 8) (q : Fin 64) : (show EReal from res_main_v192 V0 (ix5 s n r h q))
    = top (fun j : Fin 192 => cs (X V0) (bi V0 2 h.val) 512 16 (s.val * 8192 + r.val) h.val (n.val * 64 + q.val) (n.val * 64 + j.val)) := by
  pointwise [res_main_v192]
  refine (max6 _ s n r h q _ _).trans ?_
  rw [ofBits_negInf]
  unfold top
  exact Finset.fold_congr fun j _ => score2 V0 s n r h q j

/-- the exponentials, -/
theorem exp2 (s : Fin 6) (n : Fin 8) (r : Fin 16) (h : Fin 8) (q : Fin 64) (j : Fin 192) : (show EReal from res_main_v196 V0 (ix6 s n r h q j))
    = Ideal.exp (cs (X V0) (bi V0 2 h.val) 512 16 (s.val * 8192 + r.val) h.val (n.val * 64 + q.val) (n.val * 64 + j.val)
      - top (fun j : Fin 192 => cs (X V0) (bi V0 2 h.val) 512 16 (s.val * 8192 + r.val) h.val (n.val * 64 + q.val) (n.val * 64 + j.val))) := by
  have e : (show EReal from res_main_v196 V0 (ix6 s n r h q j)) = Ideal.exp ((show EReal from res_main_v191 V0 (ix6 s n r h q j)) - (show EReal from res_main_v192 V0 (ix5 s n r h q))) := by
    pointwise [res_main_v196]
  refine e.trans ?_
  exact congrArg Ideal.exp (congrArg₂ (fun x y : EReal => x - y) (score2 V0 s n r h q j) (max2 V0 s n r h q))

/-- and their sum. -/
theorem mass2 (s : Fin 6) (n : Fin 8) (r : Fin 16) (h : Fin 8) (q : Fin 64) : (show EReal from res_main_v197 V0 (ix5 s n r h q))
    = mass (fun j : Fin 192 => cs (X V0) (bi V0 2 h.val) 512 16 (s.val * 8192 + r.val) h.val (n.val * 64 + q.val) (n.val * 64 + j.val)) := by
  pointwise [res_main_v197]
  refine (sum6 _ s n r h q _ _).trans ?_
  rw [zero_add]
  unfold mass
  exact Finset.sum_congr rfl fun j _ => exp2 V0 s n r h q j

end Cert.AttRefIdeal.Hand

end
-- ==== Proof.Att.RefStack.lean ====
/- The reference's stacks of three branches, entry by entry. -/
module

public import proofs.«01_k».proof.Proof.Att.RefBranch0
public import proofs.«01_k».proof.Proof.Att.RefBranch1
public import proofs.«01_k».proof.Proof.Att.RefBranch2
public import proofs.«01_k».proof.Proof.Att.Result

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

variable (V0 : Valuation τ sig (Elt Ideal))

/-- A branch's vector in the order of the sequence, -/
theorem re0 (l : Vec Ideal S6x128x1x8x64 .f32) (s : Fin 6) (p : Fin 8192) (h : Fin 8) :
    (shapeCast S6x8192x8 (transpose S6x128x64x1x8 [0, 1, 4, 2, 3] l transposes_S6x128x1x8x64_S6x128x64x1x8_0_1_4_2_3) shapeCasts_S6x128x64x1x8_S6x8192x8) (ix3 s p h)
    = l (ix5 s ⟨p.val / 64, by omega⟩ 0 h ⟨p.val % 64, by omega⟩) := by
  pointwise []

theorem re1 (l : Vec Ideal S6x32x4x8x64 .f32) (s : Fin 6) (p : Fin 8192) (h : Fin 8) :
    (shapeCast S6x8192x8 (transpose S6x32x64x4x8 [0, 1, 4, 2, 3] l transposes_S6x32x4x8x64_S6x32x64x4x8_0_1_4_2_3) shapeCasts_S6x32x64x4x8_S6x8192x8) (ix3 s p h)
    = l (ix5 s ⟨p.val / 256, by omega⟩ ⟨p.val % 4, by omega⟩ h ⟨p.val / 4 % 64, by omega⟩) := by
  pointwise []

theorem re2 (l : Vec Ideal S6x8x16x8x64 .f32) (s : Fin 6) (p : Fin 8192) (h : Fin 8) :
    (shapeCast S6x8192x8 (transpose S6x8x64x16x8 [0, 1, 4, 2, 3] l transposes_S6x8x16x8x64_S6x8x64x16x8_0_1_4_2_3) shapeCasts_S6x8x64x16x8_S6x8192x8) (ix3 s p h)
    = l (ix5 s ⟨p.val / 1024, by omega⟩ ⟨p.val % 16, by omega⟩ h ⟨p.val / 16 % 64, by omega⟩) := by
  pointwise []

/-- and three of them stacked. -/
theorem cat (l0 l1 l2 : Vec Ideal S6x8192x8 .f32) (b : Fin 3) (s : Fin 6) (p : Fin 8192) (h : Fin 8) :
    (concatenate S3x6x8192x8 0 [⟨S1x6x8192x8, ((broadcastInDim S1x6x8192x8 ![1, 2, 3] bcast_S6x8192x8_S1x6x8192x8_1_2_3 l0) : (⟨S1x6x8192x8, .f32⟩ : BufTy).Contents (Elt Ideal))⟩, ⟨S1x6x8192x8, ((broadcastInDim S1x6x8192x8 ![1, 2, 3] bcast_S6x8192x8_S1x6x8192x8_1_2_3 l1) : (⟨S1x6x8192x8, .f32⟩ : BufTy).Contents (Elt Ideal))⟩, ⟨S1x6x8192x8, ((broadcastInDim S1x6x8192x8 ![1, 2, 3] bcast_S6x8192x8_S1x6x8192x8_1_2_3 l2) : (⟨S1x6x8192x8, .f32⟩ : BufTy).Contents (Elt Ideal))⟩] concatenates_S1x6x8192x8_S1x6x8192x8_S1x6x8192x8_S3x6x8192x8_d0 : (⟨S3x6x8192x8, .f32⟩ : BufTy).Contents (Elt Ideal)) (ix4 b s p h)
    = if b.val < 1 then l0 (ix3 s p h) else if b.val - 1 < 1 then l1 (ix3 s p h) else l2 (ix3 s p h) := by
  pointwise []
  by_cases h1 : b.val < 1
  · rw [dif_pos h1, if_pos h1]
  · rw [dif_neg h1, if_neg h1]
    by_cases h2 : b.val - 1 < 1
    · rw [dif_pos h2, if_pos h2]
    · rw [dif_neg h2, if_neg h2]

theorem add_log {S : Shape} (a b : FVec Ideal S .f32) (i : S.Idx) (x y : EReal) (ha : a i = x) (hb : b i = y) :
    (show EReal from (addf a (Host.log b) : FVec Ideal S .f32) i) = x + Ideal.log y := by
  subst ha hb; rfl

theorem stack_lse (b : Fin 3) (s : Fin 6) (p : Fin 8192) (h : Fin 8) : (show EReal from res_main_v212 V0 (ix4 b s p h)) = branchL (X V0) (bi V0) b s.val p.val h.val := by
  unfold res_main_v212
  refine (cat _ _ _ b s p h).trans ?_
  match b with
  | ⟨0, _⟩ =>
    rw [if_pos Nat.zero_lt_one]
    refine (re0 _ s p h).trans ?_
    have h1 := max0 V0 s ⟨p.val / 64, by omega⟩ 0 h ⟨p.val % 64, by omega⟩
    have h2 := mass0 V0 s ⟨p.val / 64, by omega⟩ 0 h ⟨p.val % 64, by omega⟩
    refine (add_log (res_main_v74 V0) (res_main_v79 V0) _ _ _ h1 h2).trans ?_
    clear h1 h2
    have e : p.val / 64 * 64 + p.val % 64 = p.val := by omega
    simp only [e]
    rfl
  | ⟨1, _⟩ =>
    rw [if_neg (Nat.lt_irrefl 1), if_pos (show (1 - 1 : ℕ) < 1 by decide)]
    refine (re1 _ s p h).trans ?_
    have h1 := max1 V0 s ⟨p.val / 256, by omega⟩ ⟨p.val % 4, by omega⟩ h ⟨p.val / 4 % 64, by omega⟩
    have h2 := mass1 V0 s ⟨p.val / 256, by omega⟩ ⟨p.val % 4, by omega⟩ h ⟨p.val / 4 % 64, by omega⟩
    refine (add_log (res_main_v133 V0) (res_main_v138 V0) _ _ _ h1 h2).trans ?_
    clear h1 h2
    have e : p.val / 256 * 64 + p.val / 4 % 64 = p.val / 4 := by omega
    have e2 : p.val / 256 * 64 = p.val / 4 / 64 * 64 := by omega
    simp only [e]
    simp only [e2]
    rfl
  | ⟨2, _⟩ =>
    rw [if_neg (show ¬ (2 : ℕ) < 1 by decide), if_neg (show ¬ (2 - 1 : ℕ) < 1 by decide)]
    refine (re2 _ s p h).trans ?_
    have h1 := max2 V0 s ⟨p.val / 1024, by omega⟩ ⟨p.val % 16, by omega⟩ h ⟨p.val / 16 % 64, by omega⟩
    have h2 := mass2 V0 s ⟨p.val / 1024, by omega⟩ ⟨p.val % 16, by omega⟩ h ⟨p.val / 16 % 64, by omega⟩
    refine (add_log (res_main_v192 V0) (res_main_v197 V0) _ _ _ h1 h2).trans ?_
    clear h1 h2
    have e : p.val / 1024 * 64 + p.val / 16 % 64 = p.val / 16 := by omega
    have e2 : p.val / 1024 * 64 = p.val / 16 / 64 * 64 := by omega
    simp only [e]
    simp only [e2]
    rfl

theorem stack_out (b : Fin 3) (s : Fin 6) (p : Fin 8192) (h : Fin 8) (e : Fin 64) : (show EReal from res_main_v228 V0 (ix5 b s p h e)) = branchO (X V0) (bi V0) b s.val p.val h.val e.val := by
  pointwise [res_main_v228]
  match b with
  | ⟨0, _⟩ =>
    rw [dif_pos Nat.zero_lt_one]
    have e1 : p.val / 64 * 64 + p.val % 64 = p.val := by omega
    refine (congrArg₂ Ideal.div (Finset.sum_congr rfl fun x _ => (Ideal.mul_congr (a' := cv (X V0) 8192 1 (s.val * 8192) (h.val * 64 + e.val) (p.val / 64 * 64 + x.val)) ?_ (exp0 V0 _ _ _ _ _ x)).trans (mul_comm _ _)) (mass0 V0 _ _ _ _ _)).trans ?_
    · by_cases h1 : x.val < 64
      · rw [dif_pos h1]; exact value0 V0 _ _ _ _ _ _
      · rw [dif_neg h1]
        by_cases h2 : x.val - 64 < 64
        · rw [dif_pos h2]; refine (value0 V0 _ _ _ _ _ _).trans (congrArg _ ?_); dsimp only; omega
        · rw [dif_neg h2]; refine (value0 V0 _ _ _ _ _ _).trans (congrArg _ ?_); dsimp only; omega
    · simp only [e1]
      rfl
  | ⟨1, _⟩ =>
    rw [dif_neg (Nat.lt_irrefl 1), dif_pos (show (1 - 1 : ℕ) < 1 by decide)]
    have e1 : p.val / 256 * 64 + p.val / 4 % 64 = p.val / 4 := by omega
    have e2 : p.val / 256 * 64 = p.val / 4 / 64 * 64 := by omega
    refine (congrArg₂ Ideal.div (Finset.sum_congr rfl fun x _ => (Ideal.mul_congr (a' := cv (X V0) 2048 4 (s.val * 8192 + p.val % 4) (h.val * 64 + e.val) (p.val / 256 * 64 + x.val)) ?_ (exp1 V0 _ _ _ _ _ x)).trans (mul_comm _ _)) (mass1 V0 _ _ _ _ _)).trans ?_
    · by_cases h1 : x.val < 64
      · rw [dif_pos h1]; exact value1 V0 _ _ _ _ _ _
      · rw [dif_neg h1]
        by_cases h2 : x.val - 64 < 64
        · rw [dif_pos h2]; refine (value1 V0 _ _ _ _ _ _).trans (congrArg _ ?_); dsimp only; omega
        · rw [dif_neg h2]; refine (value1 V0 _ _ _ _ _ _).trans (congrArg _ ?_); dsimp only; omega
    · simp only [e1]
      simp only [e2]
      rfl
  | ⟨2, _⟩ =>
    rw [dif_neg (show ¬ (2 : ℕ) < 1 by decide), dif_neg (show ¬ (2 - 1 : ℕ) < 1 by decide)]
    have e1 : p.val / 1024 * 64 + p.val / 16 % 64 = p.val / 16 := by omega
    have e2 : p.val / 1024 * 64 = p.val / 16 / 64 * 64 := by omega
    refine (congrArg₂ Ideal.div (Finset.sum_congr rfl fun x _ => (Ideal.mul_congr (a' := cv (X V0) 512 16 (s.val * 8192 + p.val % 16) (h.val * 64 + e.val) (p.val / 1024 * 64 + x.val)) ?_ (exp2 V0 _ _ _ _ _ x)).trans (mul_comm _ _)) (mass2 V0 _ _ _ _ _)).trans ?_
    · by_cases h1 : x.val < 64
      · rw [dif_pos h1]; exact value2 V0 _ _ _ _ _ _
      · rw [dif_neg h1]
        by_cases h2 : x.val - 64 < 64
        · rw [dif_pos h2]; refine (value2 V0 _ _ _ _ _ _).trans (congrArg _ ?_); dsimp only; omega
        · rw [dif_neg h2]; refine (value2 V0 _ _ _ _ _ _).trans (congrArg _ ?_); dsimp only; omega
    · simp only [e1]
      simp only [e2]
      rfl

end Cert.AttRefIdeal.Hand

end
-- ==== Proof.Att.RefResult.lean ====
/- The reference's result, entry by entry. -/
module

public import proofs.«01_k».proof.Proof.Att.RefStack

@[expose] public section

set_option maxRecDepth 8192
set_option maxHeartbeats 1000000

noncomputable section

open Idealize.ShloMosaic Cert.AttSpec Idealize.ShloMosaic.StableHlo

namespace Cert.AttRefIdeal.Hand

open Cert.AttRefIdeal Cert.AttRefIdeal.Gen Cert.AttRefIdeal.Value

/-- The first axis of four or five reduced: the indices over a result index. -/
theorem fiber4 {n0 n1 n2 n3 : ℕ} (H : (⟨4, ![n0, n1, n2, n3]⟩ : Shape).ReducesTo [0] ⟨3, ![n1, n2, n3]⟩)
    (b : Fin n1) (c : Fin n2) (d : Fin n3) (i : (⟨4, ![n0, n1, n2, n3]⟩ : Shape).Idx) :
    H.drop i = ix3 b c d ↔ ∃ k : Fin n0, ix4 k b c d = i := by
  constructor
  · intro E
    refine ⟨i 0, ?_⟩
    funext x; apply Fin.ext
    match x with
    | ⟨0, _⟩ => rfl
    | ⟨1, _⟩ => exact (congrArg Fin.val (congrFun E 0)).symm
    | ⟨2, _⟩ => exact (congrArg Fin.val (congrFun E 1)).symm
    | ⟨3, _⟩ => exact (congrArg Fin.val (congrFun E 2)).symm
  · rintro ⟨k, rfl⟩
    funext x; apply Fin.ext
    match x with
    | ⟨0, _⟩ => rfl
    | ⟨1, _⟩ => rfl
    | ⟨2, _⟩ => rfl

theorem fiber5 {n0 n1 n2 n3 n4 : ℕ} (H : (⟨5, ![n0, n1, n2, n3, n4]⟩ : Shape).ReducesTo [0] ⟨4, ![n1, n2, n3, n4]⟩)
    (b : Fin n1) (c : Fin n2) (d : Fin n3) (e : Fin n4) (i : (⟨5, ![n0, n1, n2, n3, n4]⟩ : Shape).Idx) :
    H.drop i = ix4 b c d e ↔ ∃ k : Fin n0, ix5 k b c d e = i := by
  constructor
  · intro E
    refine ⟨i 0, ?_⟩
    funext x; apply Fin.ext
    match x with
    | ⟨0, _⟩ => rfl
    | ⟨1, _⟩ => exact (congrArg Fin.val (congrFun E 0)).symm
    | ⟨2, _⟩ => exact (congrArg Fin.val (congrFun E 1)).symm
    | ⟨3, _⟩ => exact (congrArg Fin.val (congrFun E 2)).symm
    | ⟨4, _⟩ => exact (congrArg Fin.val (congrFun E 3)).symm
  · rintro ⟨k, rfl⟩
    funext x; apply Fin.ext
    match x with
    | ⟨0, _⟩ => rfl
    | ⟨1, _⟩ => rfl
    | ⟨2, _⟩ => rfl
    | ⟨3, _⟩ => rfl

/-- A maximum over the first axis, -/
theorem max4 {n0 n1 n2 n3 : ℕ} (H : (⟨4, ![n0, n1, n2, n3]⟩ : Shape).ReducesTo [0] ⟨3, ![n1, n2, n3]⟩) (b : Fin n1) (c : Fin n2) (d : Fin n3)
    (v : (⟨4, ![n0, n1, n2, n3]⟩ : Shape).Idx → EReal) (z : EReal) :
    (Finset.univ.filter fun i => H.drop i = ix3 b c d).fold max z v = Finset.fold max z (fun k : Fin n0 => v (ix4 k b c d)) Finset.univ :=
  Finset.fold_filter_eq_fold_of_fiber max _ (fun k : Fin n0 => ix4 k b c d) (fun _ _ E => congrFun E 0) (fiber4 H b c d) z v

/-- and sums. -/
theorem sum4 {n0 n1 n2 n3 : ℕ} (H : (⟨4, ![n0, n1, n2, n3]⟩ : Shape).ReducesTo [0] ⟨3, ![n1, n2, n3]⟩) (b : Fin n1) (c : Fin n2) (d : Fin n3)
    (v : (⟨4, ![n0, n1, n2, n3]⟩ : Shape).Idx → EReal) (z : EReal) :
    Ideal.hostReduceAdd H v z (ix3 b c d) = z + ∑ k : Fin n0, v (ix4 k b c d) :=
  congrArg (z + ·) (Finset.sum_filter_eq_sum_of_fiber _ (fun k : Fin n0 => ix4 k b c d) (fun _ _ E => congrFun E 0) (fiber4 H b c d) v)

theorem sum5 {n0 n1 n2 n3 n4 : ℕ} (H : (⟨5, ![n0, n1, n2, n3, n4]⟩ : Shape).ReducesTo [0] ⟨4, ![n1, n2, n3, n4]⟩) (b : Fin n1) (c : Fin n2) (d : Fin n3) (e : Fin n4)
    (v : (⟨5, ![n0, n1, n2, n3, n4]⟩ : Shape).Idx → EReal) (z : EReal) :
    Ideal.hostReduceAdd H v z (ix4 b c d e) = z + ∑ k : Fin n0, v (ix5 k b c d e) :=
  congrArg (z + ·) (Finset.sum_filter_eq_sum_of_fiber _ (fun k : Fin n0 => ix5 k b c d e) (fun _ _ E => congrFun E 0) (fiber5 H b c d e) v)

variable (V0 : Valuation τ sig (Elt Ideal))

/-- The weights before they are normalized. -/
theorem weights (b : Fin 3) (s : Fin 6) (p : Fin 8192) (h : Fin 8) : (show EReal from res_main_v219 V0 (ix4 b s p h))
    = Ideal.exp (branchL (X V0) (bi V0) b s.val p.val h.val - top fun b => branchL (X V0) (bi V0) b s.val p.val h.val) := by
  pointwise [res_main_v219]
  refine congrArg Ideal.exp (congrArg₂ (fun x y : EReal => x - y) (stack_lse V0 b s p h) ?_)
  rw [ofBits_negInf]
  refine (max_eq_right bot_le).trans ((max4 _ s p h _ _).trans ?_)
  unfold top
  exact Finset.fold_congr fun b _ => stack_lse V0 b s p h

/-- The result's term, of the two arguments. -/
def term : S49152x512.Idx → EReal :=
  shapeCast _ (Host.reduceAdd (mulf (broadcastInDim S3x6x8192x8x64 ![0, 1, 2, 3, 4] bcast_S3x6x8192x8x1_S3x6x8192x8x64_0_1_2_3_4 (broadcastInDim S3x6x8192x8x1 ![0, 1, 2, 3] bcast_S3x6x8192x8_S3x6x8192x8x1_0_1_2_3 (Host.divf (res_main_v219 V0) (broadcastInDim S3x6x8192x8 ![0, 1, 2, 3] bcast_S1x6x8192x8_S3x6x8192x8_0_1_2_3 (broadcastInDim S1x6x8192x8 ![1, 2, 3] bcast_S6x8192x8_S1x6x8192x8_1_2_3 (Host.reduceAdd (res_main_v219 V0) (constant S_ .f32 0x00000000#32) reducesTo_S3x6x8192x8_S6x8192x8_d0 h_S_)))))) (res_main_v228 V0)) (constant S_ .f32 0x00000000#32) reducesTo_S3x6x8192x8x64_S6x8192x8x64_d0 h_S_) shapeCasts_S6x8192x8x64_S49152x512

theorem term_at (R : Fin 49152) (C : Fin 512) : term V0 (ix2 R C) = result (X V0) (bi V0) (R.val / 8192) (R.val % 8192) (C.val / 64) (C.val % 64) := by
  pointwise [term]
  unfold result
  exact Finset.sum_congr rfl fun b _ => Ideal.mul_congr (congrArg₂ Ideal.div (weights V0 b _ _ _) (Finset.sum_congr rfl fun b' _ => weights V0 b' _ _ _)) (stack_out V0 b _ _ _ _)

end Cert.AttRefIdeal.Hand

end
-- ==== Proof.Att.Value.lean ====
/- The attention call: the array the kernel leaves is the reference's. -/
module

public import proofs.«01_k».proof.Proof.Att.Merge
public import proofs.«01_k».proof.Proof.Att.Table
public import proofs.«01_k».proof.Proof.Att.Finite
public import proofs.«01_k».proof.Proof.Att.RefResult

@[expose] public section

set_option maxRecDepth 16384
set_option maxHeartbeats 1000000

noncomputable section

open Idealize.ShloMosaic Idealize.ShloMosaic.TcCoe Idealize.SL.Sem Cert.AttSpec
open Idealize.ShloMosaic.Pipeline (Dat)

namespace Cert.AttIdeal.Hand

open Cert.AttIdeal Cert.AttIdeal.Gen

variable (m : (ℓ : Loc nD τ sig) → Buf (Elt Ideal) ℓ)
variable (V0 : Valuation Cert.AttRefIdeal.τ Cert.AttRefIdeal.sig (Elt Ideal))

/-- The biases looked up are entries of the argument. -/
theorem bi_real (h : ∀ r k, IsReal (at2 (Cert.AttRefIdeal.Hand.B V0) r k)) (b : Fin 3) (g o : ℕ) : IsReal (Cert.AttRefIdeal.Hand.bi V0 b g o) := by
  unfold Cert.AttRefIdeal.Hand.bi
  by_cases ho : o < 511
  · rw [dif_pos ho]; exact h _ _
  · rw [dif_neg ho]; exact ⟨0, EReal.coe_zero.symm⟩

/-- Which block each window takes at a grid point. -/
theorem idx : ∀ t : Fin cfg0.N, win0_0.index t = ![t.val / 16 * 4 + t.val % 4, t.val / 4 % 4] ∧ win0_1.index t = ![t.val / 16, 4 + t.val / 4 % 4]
    ∧ win0_2.index t = ![t.val / 16, 8 + t.val / 4 % 4] ∧ win0_3.index t = ![t.val / 4 % 4, 0, 0, 0] ∧ win0_4.index t = ![t.val / 16 * 4 + t.val % 4, t.val / 4 % 4]
    ∧ (grid0.coords t 2).val = t.val % 4 ∧ t.val < 96 :=
  (by decide +kernel : ∀ t : Fin grid0.N, _)

theorem lt_points (t : Fin cfg0.N) : t.val < 96 := (idx t).2.2.2.2.2.2

theorem b0 (c : Dev nD) (t : Fin cfg0.N) (r : Fin 2048) (l : Fin 128) : iblk m c 0 t (ix2 r l)
    = m ((c : Thread nD τ).loc main_arg0) (ix2 ⟨(t.val / 16 * 4 + t.val % 4) * 2048 + r.val, by have := lt_points t; omega⟩ ⟨t.val / 4 % 4 * 128 + l.val, by omega⟩) := by
  rw [← V_arg0 m c]
  blk_point [iblk, idx t]
theorem b1 (c : Dev nD) (t : Fin cfg0.N) (r : Fin 8192) (l : Fin 128) : iblk m c 1 t (ix2 r l)
    = m ((c : Thread nD τ).loc main_arg0) (ix2 ⟨t.val / 16 * 8192 + r.val, by have := lt_points t; omega⟩ ⟨(4 + t.val / 4 % 4) * 128 + l.val, by omega⟩) := by
  rw [← V_arg0 m c]
  blk_point [iblk, idx t]
theorem b2 (c : Dev nD) (t : Fin cfg0.N) (r : Fin 8192) (l : Fin 128) : iblk m c 2 t (ix2 r l)
    = m ((c : Thread nD τ).loc main_arg0) (ix2 ⟨t.val / 16 * 8192 + r.val, by have := lt_points t; omega⟩ ⟨(8 + t.val / 4 % 4) * 128 + l.val, by omega⟩) := by
  rw [← V_arg0 m c]
  blk_point [iblk, idx t]
theorem b3 (c : Dev nD) (t : Fin cfg0.N) (P : Fin 18) (r : Fin 128) (j : Fin 256) : iblk m c 3 t (ix4 0 P r j)
    = V m c main_v35 (ix4 ⟨t.val / 4 % 4, by omega⟩ P r j) := by
  blk_point [iblk, idx t]

/-- What the body leaves at a grid point is the reference there. -/
theorem point (c : Dev nD) (hx : Cert.AttRefIdeal.Hand.X V0 = m ((c : Thread nD τ).loc main_arg0)) (hB : Cert.AttRefIdeal.Hand.B V0 = m ((c : Thread nD τ).loc main_arg1))
    (hX : ∀ r k, k < 1024 → IsReal (at2 (Cert.AttRefIdeal.Hand.X V0) r k)) (hb : ∀ b h o, IsReal (Cert.AttRefIdeal.Hand.bi V0 b h o)) (t : Fin cfg0.N) (y : Fin 2048) (k : Fin 128) :
    (show EReal from merge (outs (grid0.coords t) (iblk m c 0 t) (iblk m c 1 t) (iblk m c 2 t) (iblk m c 3 t)) (lses (grid0.coords t) (iblk m c 0 t) (iblk m c 1 t) (iblk m c 3 t)) (ix2 y k))
      = Cert.AttRefIdeal.Hand.term V0 (ix2 ⟨(t.val / 16 * 4 + t.val % 4) * 2048 + y.val, by have := lt_points t; omega⟩ ⟨t.val / 4 % 4 * 128 + k.val, by omega⟩) := by
  have hlt := lt_points t
  have ht2 := (idx t).2.2.2.2.2.1
  refine (body_at (grid0.coords t) (grid0.coords t 2) rfl _ _ _ _ (Cert.AttRefIdeal.Hand.X V0) (Cert.AttRefIdeal.Hand.bi V0) (t.val / 16) (t.val / 4 % 4) ?_ ?_ ?_ ?_ hX hb (by omega) y k).trans ?_
  · intro R l
    refine (b0 m c t R l).trans ?_
    rw [hx]
    exact (at2_eq _ _ _ _ _).trans (at2_congr (by omega) rfl)
  · intro R l
    refine (b1 m c t R l).trans ?_
    rw [hx]
    exact (at2_eq _ _ _ _ _).trans (at2_congr rfl (by omega))
  · intro R l
    refine (b2 m c t R l).trans ?_
    rw [hx]
    exact (at2_eq _ _ _ _ _).trans (at2_congr rfl (by omega))
  · intro P r j b hPb
    exact (b3 m c t P r j).trans (table_at m V0 c hB ⟨t.val / 4 % 4, by omega⟩ P r j b hPb)
  · refine Eq.trans ?_ (Cert.AttRefIdeal.Hand.term_at V0 _ _).symm
    have e1 : ((t.val / 16 * 4 + t.val % 4) * 2048 + y.val) / 8192 = t.val / 16 := by omega
    have e2 : ((t.val / 16 * 4 + t.val % 4) * 2048 + y.val) % 8192 = 2048 * (grid0.coords t 2).val + y.val := by omega
    have e3 : (t.val / 4 % 4 * 128 + k.val) / 64 = t.val / 4 % 4 * 2 + k.val / 64 := by omega
    have e4 : (t.val / 4 % 4 * 128 + k.val) % 64 = k.val % 64 := by omega
    dsimp only
    rw [e1, e2, e3, e4]

/-- The result array after the run. -/
theorem final (c : Dev nD) (hx : Cert.AttRefIdeal.Hand.X V0 = m ((c : Thread nD τ).loc main_arg0)) (hB : Cert.AttRefIdeal.Hand.B V0 = m ((c : Thread nD τ).loc main_arg1))
    (hX : ∀ r k, k < 1024 → IsReal (at2 (Cert.AttRefIdeal.Hand.X V0) r k)) (hb : ∀ b h o, IsReal (Cert.AttRefIdeal.Hand.bi V0 b h o)) :
    (dats m 0 c).arrAt 4 (cfgs 0).N = Cert.AttRefIdeal.Hand.term V0 := by
  refine (dats m 0 c).arrAt_eq_of_covers 4 _ (by decide +kernel) fun t _ y => ?_
  blk_simp
  rw [after4]
  have hw : out4 (grid0.coords t) (iblk m c 0 t) (iblk m c 1 t) (iblk m c 2 t) (iblk m c 3 t) y = merge (outs (grid0.coords t) (iblk m c 0 t) (iblk m c 1 t) (iblk m c 2 t) (iblk m c 3 t)) (lses (grid0.coords t) (iblk m c 0 t) (iblk m c 1 t) (iblk m c 3 t)) y := by
    unfold out4
    frame_out
  rw [hw]
  have hy : (y : S2048x128.Idx) = ix2 (y 0) (y 1) := (ix2_eta (n0 := 2048) (n1 := 128) y).symm
  refine (congrArg (merge (outs (grid0.coords t) (iblk m c 0 t) (iblk m c 1 t) (iblk m c 2 t) (iblk m c 3 t)) (lses (grid0.coords t) (iblk m c 0 t) (iblk m c 1 t) (iblk m c 3 t))) hy).trans ?_
  refine (point m V0 c hx hB hX hb t (y 0) (y 1)).trans (congrArg (Cert.AttRefIdeal.Hand.term V0) ?_)
  blk_ext [idx t]

end Cert.AttIdeal.Hand

end
-- ==== Proof.lean ====
module

public import proofs.«01_k».proof.Defs
public import proofs.«01_k».proof.Proof.Gen.Att.Skeleton
public import proofs.«01_k».proof.Proof.Gen.Att.Launch
public import proofs.«01_k».proof.Proof.Gen.Att.Points
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttRefIdeal.Run
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.PostIdeal.Value
public import proofs.«01_k».proof.Proof.Gen.PostRefIdeal.Run
public import proofs.«01_k».proof.Proof.Gen.InProjIdeal.Value
public import proofs.«01_k».proof.Proof.Gen.InProjRefIdeal.Run
public import proofs.«01_k».proof.Proof.Post.Value
public import proofs.«01_k».proof.Proof.InProj.Value
public import proofs.«01_k».proof.Proof.Att.Frame
public import proofs.«01_k».proof.Proof.Att.Value
public import Idealize.ShloMosaic.Lib.Claim
public import Idealize.ShloMosaic.Adequacy
public import Idealize.ShloMosaic.Init

@[expose] public section

noncomputable section

namespace Cert.Proof

open Idealize.ShloMosaic Idealize.SL.Sem

/-- The post-mixer reference leaves its arguments; it declares no semaphore. -/
theorem frame_postRef : Cert.quiescent_PostRefIdeal := fun m ρ _ =>
  (θ_run Cert.PostRefIdeal.defs _ _).mono (fun r h => ⟨fun c => (h c).2, sem_eq_zero_of_no_sems (by decide) r.2⟩)
    (Cert.PostRefIdeal.Value.run (F := Ideal) m ρ)

/-- The input-projection reference leaves its arguments; it declares no semaphore. -/
theorem frame_inRef : Cert.quiescent_InProjRefIdeal := fun m ρ _ =>
  (θ_run Cert.InProjRefIdeal.defs _ _).mono (fun r h => ⟨fun c => (h c).2.2, sem_eq_zero_of_no_sems (by decide) r.2⟩)
    (Cert.InProjRefIdeal.Value.run (F := Ideal) m ρ)

/-- The post-mixer half of the layer is its reference. -/
theorem alg_post : Cert.algebraic_PostIdeal_PostRefIdeal := by
  intro m g m' g' _ hagree
  refine ⟨fun c => Cert.PostIdeal.Value.result m c,
    (θ_run Cert.PostIdeal.defs _ _).mono (fun r h c => ⟨(Cert.PostIdeal.Value.post16 m r h c).trans (Cert.PostIdeal.Value.final m c), Cert.PostIdeal.Value.kept_main_arg0 m r h c, Cert.PostIdeal.Value.kept_main_arg1 m r h c, Cert.PostIdeal.Value.kept_main_arg2 m r h c, Cert.PostIdeal.Value.kept_main_arg3 m r h c, Cert.PostIdeal.Value.kept_main_arg4 m r h c, Cert.PostIdeal.Value.kept_main_arg5 m r h c, Cert.PostIdeal.Value.kept_main_arg6 m r h c, Cert.PostIdeal.Value.kept_main_arg7 m r h c, Cert.PostIdeal.Value.kept_main_arg8 m r h c, Cert.PostIdeal.Value.kept_main_arg9 m r h c, Cert.PostIdeal.Value.kept_main_arg10 m r h c, Cert.PostIdeal.Value.kept_main_arg11 m r h c, Cert.PostIdeal.Value.kept_main_arg12 m r h c, Cert.PostIdeal.Value.kept_main_arg13 m r h c, Cert.PostIdeal.Value.kept_main_arg14 m r h c, Cert.PostIdeal.Value.kept_main_arg15 m r h c⟩) (Cert.PostIdeal.Gen.run_main m g),
    (θ_run Cert.PostRefIdeal.defs _ _).mono (fun r h c => ⟨(h c).1.trans ?_, (h c).2⟩) (Cert.PostRefIdeal.Value.run_stages m' g')⟩
  obtain ⟨h0, h1, h2, h3, h4, h5, h6, h7, h8, h9, h10, h11, h12, h13, h14, h15⟩ := hagree c
  rw [h0, h1, h2, h3, h4, h5, h6, h7, h8, h9, h10, h11, h12, h13, h14, h15]
  rfl

/-- The attention reference leaves its arguments; it declares no semaphore. -/
theorem run_attRef (m : (ℓ : Loc Cert.AttRefIdeal.nD Cert.AttRefIdeal.τ Cert.AttRefIdeal.sig) → Buf (Elt Ideal) ℓ) (ρ : Dev Cert.AttRefIdeal.nD → PrngReg) :
    θ_run Cert.AttRefIdeal.defs (onTc (τ := Cert.AttRefIdeal.τ) (Cert.AttRefIdeal.main (F := Ideal))) ⟨m, fun _ => 0, ρ⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0) :=
  (θ_run Cert.AttRefIdeal.defs _ _).mono (fun r h => ⟨fun c => (h c).2, sem_eq_zero_of_no_sems (by decide) r.2⟩)
    (Cert.AttRefIdeal.Value.run (F := Ideal) m ρ)

/-- The dilated attention is its reference, at finite queries, keys and biases. -/
theorem alg_att : Cert.algebraic_AttIdeal_AttRefIdeal_pre_finite := by
  intro m g m' g' hpre hagree
  refine ⟨fun c => Cert.AttRefIdeal.Hand.term (fun b => m' (c, b)),
    (θ_run Cert.AttIdeal.defs _ _).mono (fun r h c => ⟨((h c).1 4).trans ?_, Cert.AttIdeal.Hand.args_kept m h c⟩) (Cert.AttIdeal.Hand.run_main m g),
    Cert.AttRefIdeal.Value.run m' g'⟩
  obtain ⟨h0, h1⟩ := hagree c
  have hf := hpre c
  rw [← h0, ← h1] at hf
  obtain ⟨hX, hb⟩ := Cert.AttSpec.finite_reals _ _ hf
  exact Cert.AttIdeal.Hand.final m (fun b => m' (c, b)) c h0 h1 hX (Cert.AttIdeal.Hand.bi_real _ hb)

/-- The input projection is its reference. -/
theorem alg_in : Cert.algebraic_InProjIdeal_InProjRefIdeal := by
  pair_intro
  · run_from Cert.InProjIdeal.Gen.run_main m g
  · run_from Cert.InProjRefIdeal.Value.run m' g'
    · exact (Cert.InProjIdeal.Value.final3 m c).symm
    · exact (Cert.InProjIdeal.Value.final4 m c).symm

theorem claim : Cert.Claim :=
  ⟨Cert.Post.Gen.facts, Cert.PostIdeal.Gen.facts, Cert.PostRefIdeal.Gen.facts, Cert.Att.Gen.facts, Cert.AttIdeal.Gen.facts, Cert.AttRefIdeal.Gen.facts,
    Cert.InProj.Gen.facts, Cert.InProjIdeal.Gen.facts, Cert.InProjRefIdeal.Gen.facts, Cert.AttSpec.finite_facts,
    fun m ρ _ => Cert.Post.Gen.frame m ρ, fun m ρ _ => Cert.PostIdeal.Gen.frame m ρ, frame_postRef,
    fun m ρ _ => Cert.Att.Hand.frame m ρ, fun m ρ _ => Cert.AttIdeal.Hand.frame m ρ, fun m ρ _ => Cert.AttIdeal.Hand.frame m ρ,
    fun m ρ _ => run_attRef m ρ, fun m ρ _ => run_attRef m ρ,
    fun m ρ _ => Cert.InProj.Gen.frame m ρ, fun m ρ _ => Cert.InProjIdeal.Gen.frame m ρ, frame_inRef,
    trivial, alg_post, trivial, alg_att, trivial, alg_in⟩

end Cert.Proof

end
